-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S3x8x2x32x256 : Shape := ⟨5, ![3, 8, 2, 32, 256]⟩
abbrev S4x64x256 : Shape := ⟨3, ![4, 64, 256]⟩
abbrev S3x8x2 : Shape := ⟨3, ![3, 8, 2]⟩
abbrev S_ : Shape := ⟨0, ![]⟩
abbrev S64x256 : Shape := ⟨2, ![64, 256]⟩
abbrev S64x512 : Shape := ⟨2, ![64, 512]⟩
abbrev S32x256 : Shape := ⟨2, ![32, 256]⟩
abbrev S1x1x1x32x256 : Shape := ⟨5, ![1, 1, 1, 32, 256]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S256x256, .f32⟩
  | .local _ .vmem, ⟨8, _⟩ => ⟨S3x8x2x32x256, .f32⟩
  | .local _ .vmem, ⟨9, _⟩ => ⟨S3x8x2x32x256, .f32⟩
  | .local _ .vmem, ⟨10, _⟩ => ⟨S4x64x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  (ofTc nBuf bufTy 1 104 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_30 : BitVec 32 := 1#32
  let v24 : BitVec 32 := Scalar.muli v3 c1_i32_30
  let v25 : BitVec 32 := Scalar.addi c0_i32_31 v24
  v25.toNat
def k0_dev4 (d0 : Dev nD) : Nat :=
  let c0_i32_53 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_52 : BitVec 32 := 1#32
  let v38 : BitVec 32 := Scalar.muli v4 c1_i32_52
  let v39 : BitVec 32 := Scalar.addi c0_i32_53 v38
  v39.toNat
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_78 : BitVec 32 := 1#32
  let v58 : BitVec 32 := Scalar.muli v3 c1_i32_78
  let v59 : BitVec 32 := Scalar.addi c0_i32_79 v58
  v59.toNat
def k0_dev6 (d0 : Dev nD) : Nat :=
  let c0_i32_101 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_100 : BitVec 32 := 1#32
  let v72 : BitVec 32 := Scalar.muli v4 c1_i32_100
  let v73 : BitVec 32 := Scalar.addi c0_i32_101 v72
  v73.toNat
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_126 : BitVec 32 := 1#32
  let v92 : BitVec 32 := Scalar.muli v3 c1_i32_126
  let v93 : BitVec 32 := Scalar.addi c0_i32_127 v92
  v93.toNat
def k0_dev8 (d0 : Dev nD) : Nat :=
  let c0_i32_148 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_147 : BitVec 32 := 1#32
  let v106 : BitVec 32 := Scalar.muli v4 c1_i32_147
  let v107 : BitVec 32 := Scalar.addi c0_i32_148 v106
  v107.toNat
def k0_dev9 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_172 : BitVec 32 := 1#32
  let v126 : BitVec 32 := Scalar.muli v3 c1_i32_172
  let v127 : BitVec 32 := Scalar.addi c0_i32_173 v126
  v127.toNat
def k0_dev10 (d0 : Dev nD) : Nat :=
  let c0_i32_194 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_193 : BitVec 32 := 1#32
  let v140 : BitVec 32 := Scalar.muli v4 c1_i32_193
  let v141 : BitVec 32 := Scalar.addi c0_i32_194 v140
  v141.toNat
def k0_dev11 (d0 : Dev nD) : Nat :=
  let c0_i32_257 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_256 : BitVec 32 := 1#32
  let v170 : BitVec 32 := Scalar.muli v4 c1_i32_256
  let v171 : BitVec 32 := Scalar.addi c0_i32_257 v170
  v171.toNat
def k0_dev12 (d0 : Dev nD) : Nat :=
  let c0_i32_320 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_319 : BitVec 32 := 1#32
  let v200 : BitVec 32 := Scalar.muli v3 c1_i32_319
  let v201 : BitVec 32 := Scalar.addi c0_i32_320 v200
  v201.toNat
def k0_dev13 (d0 : Dev nD) : Nat :=
  let c0_i32_383 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_382 : BitVec 32 := 1#32
  let v230 : BitVec 32 := Scalar.muli v4 c1_i32_382
  let v231 : BitVec 32 := Scalar.addi c0_i32_383 v230
  v231.toNat
def k0_dev14 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_445 : BitVec 32 := 1#32
  let v260 : BitVec 32 := Scalar.muli v3 c1_i32_445
  let v261 : BitVec 32 := Scalar.addi c0_i32_446 v260
  v261.toNat
def k0_dev15 (d0 : Dev nD) : Nat :=
  let c0_i32_509 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_508 : BitVec 32 := 1#32
  let v290 : BitVec 32 := Scalar.muli v4 c1_i32_508
  let v291 : BitVec 32 := Scalar.addi c0_i32_509 v290
  v291.toNat
def k0_dev16 (d0 : Dev nD) : Nat :=
  let c0_i32_572 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_571 : BitVec 32 := 1#32
  let v320 : BitVec 32 := Scalar.muli v3 c1_i32_571
  let v321 : BitVec 32 := Scalar.addi c0_i32_572 v320
  v321.toNat
def k0_dev17 (d0 : Dev nD) : Nat :=
  let c0_i32_635 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_634 : BitVec 32 := 1#32
  let v350 : BitVec 32 := Scalar.muli v4 c1_i32_634
  let v351 : BitVec 32 := Scalar.addi c0_i32_635 v350
  v351.toNat
def k0_dev18 (d0 : Dev nD) : Nat :=
  let c0_i32_698 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_697 : BitVec 32 := 1#32
  let v380 : BitVec 32 := Scalar.muli v3 c1_i32_697
  let v381 : BitVec 32 := Scalar.addi c0_i32_698 v380
  v381.toNat
def k0_dev19 (d0 : Dev nD) : Nat :=
  let c0_i32_808 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_807 : BitVec 32 := 1#32
  let v437 : BitVec 32 := Scalar.muli v3 c1_i32_807
  let v438 : BitVec 32 := Scalar.addi c0_i32_808 v437
  v438.toNat
def k0_dev20 (d0 : Dev nD) : Nat :=
  let c0_i32_831 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_830 : BitVec 32 := 1#32
  let v451 : BitVec 32 := Scalar.muli v4 c1_i32_830
  let v452 : BitVec 32 := Scalar.addi c0_i32_831 v451
  v452.toNat
def k0_dev21 (d0 : Dev nD) : Nat :=
  let c0_i32_937 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_936 : BitVec 32 := 1#32
  let v504 : BitVec 32 := Scalar.muli v3 c1_i32_936
  let v505 : BitVec 32 := Scalar.addi c0_i32_937 v504
  v505.toNat
def k0_dev22 (d0 : Dev nD) : Nat :=
  let c0_i32_960 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_959 : BitVec 32 := 1#32
  let v518 : BitVec 32 := Scalar.muli v4 c1_i32_959
  let v519 : BitVec 32 := Scalar.addi c0_i32_960 v518
  v519.toNat
def k0_dev23 (d0 : Dev nD) : Nat :=
  let c0_i32_1066 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1065 : BitVec 32 := 1#32
  let v571 : BitVec 32 := Scalar.muli v3 c1_i32_1065
  let v572 : BitVec 32 := Scalar.addi c0_i32_1066 v571
  v572.toNat
def k0_dev24 (d0 : Dev nD) : Nat :=
  let c0_i32_1089 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1088 : BitVec 32 := 1#32
  let v585 : BitVec 32 := Scalar.muli v4 c1_i32_1088
  let v586 : BitVec 32 := Scalar.addi c0_i32_1089 v585
  v586.toNat
def k0_dev25 (d0 : Dev nD) : Nat :=
  let c0_i32_1195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1194 : BitVec 32 := 1#32
  let v638 : BitVec 32 := Scalar.muli v3 c1_i32_1194
  let v639 : BitVec 32 := Scalar.addi c0_i32_1195 v638
  v639.toNat
def k0_dev26 (d0 : Dev nD) : Nat :=
  let c0_i32_1218 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1217 : BitVec 32 := 1#32
  let v652 : BitVec 32 := Scalar.muli v4 c1_i32_1217
  let v653 : BitVec 32 := Scalar.addi c0_i32_1218 v652
  v653.toNat
def k0_dev27 (d0 : Dev nD) : Nat :=
  let c0_i32_1281 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1280 : BitVec 32 := 1#32
  let v682 : BitVec 32 := Scalar.muli v4 c1_i32_1280
  let v683 : BitVec 32 := Scalar.addi c0_i32_1281 v682
  v683.toNat
def k0_dev28 (d0 : Dev nD) : Nat :=
  let c0_i32_1344 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1343 : BitVec 32 := 1#32
  let v712 : BitVec 32 := Scalar.muli v3 c1_i32_1343
  let v713 : BitVec 32 := Scalar.addi c0_i32_1344 v712
  v713.toNat
def k0_dev29 (d0 : Dev nD) : Nat :=
  let c0_i32_1407 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1406 : BitVec 32 := 1#32
  let v742 : BitVec 32 := Scalar.muli v4 c1_i32_1406
  let v743 : BitVec 32 := Scalar.addi c0_i32_1407 v742
  v743.toNat
def k0_dev30 (d0 : Dev nD) : Nat :=
  let c0_i32_1470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1469 : BitVec 32 := 1#32
  let v772 : BitVec 32 := Scalar.muli v3 c1_i32_1469
  let v773 : BitVec 32 := Scalar.addi c0_i32_1470 v772
  v773.toNat
def k0_dev31 (d0 : Dev nD) : Nat :=
  let c0_i32_1533 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1532 : BitVec 32 := 1#32
  let v802 : BitVec 32 := Scalar.muli v4 c1_i32_1532
  let v803 : BitVec 32 := Scalar.addi c0_i32_1533 v802
  v803.toNat
def k0_dev32 (d0 : Dev nD) : Nat :=
  let c0_i32_1596 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1595 : BitVec 32 := 1#32
  let v832 : BitVec 32 := Scalar.muli v3 c1_i32_1595
  let v833 : BitVec 32 := Scalar.addi c0_i32_1596 v832
  v833.toNat
def k0_dev33 (d0 : Dev nD) : Nat :=
  let c0_i32_1659 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1658 : BitVec 32 := 1#32
  let v862 : BitVec 32 := Scalar.muli v4 c1_i32_1658
  let v863 : BitVec 32 := Scalar.addi c0_i32_1659 v862
  v863.toNat
def k0_dev34 (d0 : Dev nD) : Nat :=
  let c0_i32_1722 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1721 : BitVec 32 := 1#32
  let v892 : BitVec 32 := Scalar.muli v3 c1_i32_1721
  let v893 : BitVec 32 := Scalar.addi c0_i32_1722 v892
  v893.toNat
def k0_dev35 (d0 : Dev nD) : Nat :=
  let c0_i32_1832 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1831 : BitVec 32 := 1#32
  let v949 : BitVec 32 := Scalar.muli v3 c1_i32_1831
  let v950 : BitVec 32 := Scalar.addi c0_i32_1832 v949
  v950.toNat
def k0_dev36 (d0 : Dev nD) : Nat :=
  let c0_i32_1855 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1854 : BitVec 32 := 1#32
  let v963 : BitVec 32 := Scalar.muli v4 c1_i32_1854
  let v964 : BitVec 32 := Scalar.addi c0_i32_1855 v963
  v964.toNat
def k0_dev37 (d0 : Dev nD) : Nat :=
  let c0_i32_1961 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1960 : BitVec 32 := 1#32
  let v1016 : BitVec 32 := Scalar.muli v3 c1_i32_1960
  let v1017 : BitVec 32 := Scalar.addi c0_i32_1961 v1016
  v1017.toNat
def k0_dev38 (d0 : Dev nD) : Nat :=
  let c0_i32_1984 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1983 : BitVec 32 := 1#32
  let v1030 : BitVec 32 := Scalar.muli v4 c1_i32_1983
  let v1031 : BitVec 32 := Scalar.addi c0_i32_1984 v1030
  v1031.toNat
def k0_dev39 (d0 : Dev nD) : Nat :=
  let c0_i32_2090 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2089 : BitVec 32 := 1#32
  let v1083 : BitVec 32 := Scalar.muli v3 c1_i32_2089
  let v1084 : BitVec 32 := Scalar.addi c0_i32_2090 v1083
  v1084.toNat
def k0_dev40 (d0 : Dev nD) : Nat :=
  let c0_i32_2113 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2112 : BitVec 32 := 1#32
  let v1097 : BitVec 32 := Scalar.muli v4 c1_i32_2112
  let v1098 : BitVec 32 := Scalar.addi c0_i32_2113 v1097
  v1098.toNat
def k0_dev41 (d0 : Dev nD) : Nat :=
  let c0_i32_2219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2218 : BitVec 32 := 1#32
  let v1150 : BitVec 32 := Scalar.muli v3 c1_i32_2218
  let v1151 : BitVec 32 := Scalar.addi c0_i32_2219 v1150
  v1151.toNat
def k0_dev42 (d0 : Dev nD) : Nat :=
  let c0_i32_2242 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2241 : BitVec 32 := 1#32
  let v1164 : BitVec 32 := Scalar.muli v4 c1_i32_2241
  let v1165 : BitVec 32 := Scalar.addi c0_i32_2242 v1164
  v1165.toNat
def k0_dev43 (d0 : Dev nD) : Nat :=
  let c0_i32_2305 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2304 : BitVec 32 := 1#32
  let v1194 : BitVec 32 := Scalar.muli v4 c1_i32_2304
  let v1195 : BitVec 32 := Scalar.addi c0_i32_2305 v1194
  v1195.toNat
def k0_dev44 (d0 : Dev nD) : Nat :=
  let c0_i32_2368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2367 : BitVec 32 := 1#32
  let v1224 : BitVec 32 := Scalar.muli v3 c1_i32_2367
  let v1225 : BitVec 32 := Scalar.addi c0_i32_2368 v1224
  v1225.toNat
def k0_dev45 (d0 : Dev nD) : Nat :=
  let c0_i32_2431 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2430 : BitVec 32 := 1#32
  let v1254 : BitVec 32 := Scalar.muli v4 c1_i32_2430
  let v1255 : BitVec 32 := Scalar.addi c0_i32_2431 v1254
  v1255.toNat
def k0_dev46 (d0 : Dev nD) : Nat :=
  let c0_i32_2494 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2493 : BitVec 32 := 1#32
  let v1284 : BitVec 32 := Scalar.muli v3 c1_i32_2493
  let v1285 : BitVec 32 := Scalar.addi c0_i32_2494 v1284
  v1285.toNat
def k0_dev47 (d0 : Dev nD) : Nat :=
  let c0_i32_2557 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2556 : BitVec 32 := 1#32
  let v1314 : BitVec 32 := Scalar.muli v4 c1_i32_2556
  let v1315 : BitVec 32 := Scalar.addi c0_i32_2557 v1314
  v1315.toNat
def k0_dev48 (d0 : Dev nD) : Nat :=
  let c0_i32_2620 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2619 : BitVec 32 := 1#32
  let v1344 : BitVec 32 := Scalar.muli v3 c1_i32_2619
  let v1345 : BitVec 32 := Scalar.addi c0_i32_2620 v1344
  v1345.toNat
def k0_dev49 (d0 : Dev nD) : Nat :=
  let c0_i32_2683 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2682 : BitVec 32 := 1#32
  let v1374 : BitVec 32 := Scalar.muli v4 c1_i32_2682
  let v1375 : BitVec 32 := Scalar.addi c0_i32_2683 v1374
  v1375.toNat
def k0_dev50 (d0 : Dev nD) : Nat :=
  let c0_i32_2746 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2745 : BitVec 32 := 1#32
  let v1404 : BitVec 32 := Scalar.muli v3 c1_i32_2745
  let v1405 : BitVec 32 := Scalar.addi c0_i32_2746 v1404
  v1405.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x256 : Shape := ⟨2, ![256, 256]⟩
abbrev S256x2048 : Shape := ⟨2, ![256, 2048]⟩
abbrev S2048x256 : Shape := ⟨2, ![2048, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x2048, .f32⟩
  | .hbm, ⟨2, _⟩ => ⟨S2048x256, .f32⟩
  | .hbm, ⟨3, _⟩ => ⟨S256x2048, .f32⟩
  | .hbm, ⟨4, _⟩ => ⟨S2048x256, .f32⟩
  | .hbm, ⟨5, _⟩ => ⟨S256x2048, .f32⟩
  | .hbm, ⟨6, _⟩ => ⟨S2048x256, .f32⟩
  | .hbm, ⟨7, _⟩ => ⟨S256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S256x256, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x256, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KernelIdeal.Slots.lean ====
/-
# The 48 transfers of the kernel

A device sends 48 blocks: in each of the three layers, a first and then a second exchange of each of eight
chunks of 32 rows. Slot `n` of the two buffers and of the two semaphore arrays is the one the `n`-th transfer
uses, in program order: layer `n / 16`, chunk `n % 8`, exchange `n / 8 % 2`. This module names the slots' buffers
and semaphores, the partner a slot is exchanged with, and the values the body computes.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Exch

open Cert.KernelIdeal Cert.KernelIdeal.Gen
open Idealize.ShloMosaic
open Idealize.ShloMosaic.TcCoe

variable {F : FTy → Type} [FloatOps F]

/-! ## Partners -/

set_option backward.proofsInPublic true in
/-- The partner of device `c` in direction `b`: its number with the low bit flipped, or three minus its number. -/
def mate (b : Bool) (c : Dev nD) : Dev nD :=
  if b then ⟨3 - c.val, Nat.lt_of_le_of_lt (Nat.sub_le _ _) (by decide)⟩ else ⟨(c.val / 2) * 2 + (1 - c.val % 2), by have := c.isLt; simp only [nD] at *; omega⟩

theorem mate_mate (b : Bool) (c : Dev nD) : mate b (mate b c) = c := by revert b c; decide
theorem mate_ne (c : Dev nD) : mate true c ≠ mate false c := by revert c; decide

/-- The direction slot `n` is exchanged in: the parity of its chunk and exchange together. -/
def kind (n : Fin 48) : Bool := (n.val % 8 + n.val / 8) % 2 == 1

/-- The device slot `n` of device `c` is sent to, and the one it is received from. -/
abbrev peer (c : Dev nD) (n : Fin 48) : Dev nD := mate (kind n) c

theorem peer_peer (c : Dev nD) (n : Fin 48) : peer (peer c n) n = c := mate_mate _ c

/-- The device slot `n`'s transfer addresses, as the body computes it. -/
def tgt (c : Dev nD) (n : Fin 48) : Dev nD :=
  match kind n with
  | false => ⟨k0_dev1 c, k0_dev1_lt c⟩
  | true => ⟨k0_dev2 c, k0_dev2_lt c⟩

theorem dev1_eq (c : Dev nD) : (⟨k0_dev1 c, k0_dev1_lt c⟩ : Dev nD) = mate false c := by revert c; decide +kernel
theorem dev2_eq (c : Dev nD) : (⟨k0_dev2 c, k0_dev2_lt c⟩ : Dev nD) = mate true c := by revert c; decide +kernel

theorem tgt_eq (c : Dev nD) (n : Fin 48) : tgt c n = peer c n := by
  unfold tgt peer
  cases kind n
  · exact dev1_eq c
  · exact dev2_eq c

/-! ## Buffers and semaphores -/

abbrev sM : Memref sig .tc .vmem S3x8x2x32x256 .f32 := Memref.whole cc0_scratch0
abbrev rM : Memref sig .tc .vmem S3x8x2x32x256 .f32 := Memref.whole cc0_scratch1

/-- Where slot `n` starts in a buffer. -/
abbrev off5 (n : Fin 48) : Fin 5 → Nat := ![n.val / 16, n.val % 8, n.val / 8 % 2, 0, 0]
/-- Where slot `n` is in a semaphore array. -/
abbrev off3 (n : Fin 48) : Fin 3 → Nat := ![n.val / 16, n.val % 8, n.val / 8 % 2]

theorem inb5 (n : Fin 48) : ∀ a, off5 n a + S1x1x1x32x256.size a ≤ S3x8x2x32x256.size a := by revert n; decide +kernel
theorem inb3 (n : Fin 48) : ∀ a, off3 n a + S1x1x1.size a ≤ S3x8x2.size a := by revert n; decide +kernel

/-- Slot `n`'s block of a buffer. -/
abbrev rc (n : Fin 48) : Rect S3x8x2x32x256 := Rect.unit (s := S3x8x2x32x256) (off5 n) S1x1x1x32x256.size (inb5 n)

/-- Slot `n` of a buffer as a matrix of 32 rows. -/
abbrev sl (M : Memref sig .tc .vmem S3x8x2x32x256 .f32) (n : Fin 48) : Memref sig .tc .vmem S32x256 .f32 :=
  (M.slice (rc n) (fun _ => rfl)).squeeze S32x256 squeezes_S1x1x1x32x256_S32x256

/-- Slot `n`'s semaphore in an array of them. -/
abbrev sem3 (A : DmaSems sig S3x8x2) (n : Fin 48) : DmaSem sig :=
  ((A.slice (Rect.unit (s := S3x8x2) (off3 n) S1x1x1.size (inb3 n))).squeeze S_ squeezes_S1x1x1_S_).sem
abbrev sendS (n : Fin 48) : DmaSem sig := sem3 cc0_scratch3 n
abbrev recvS (n : Fin 48) : DmaSem sig := sem3 cc0_scratch4 n
/-- The barrier semaphore. -/
abbrev barS : Sem sig := (SemArray.scalar (sig.barrier 0 rfl) : Sems sig S_).sem

/-! ## Values -/

abbrev Blk (F : FTy → Type) [FloatOps F] := FVec F S32x256 .f32
abbrev Pair (F : FTy → Type) [FloatOps F] := FVec F S64x256 .f32
abbrev WIn (F : FTy → Type) [FloatOps F] := FVec F S256x512 .f32
abbrev WOut (F : FTy → Type) [FloatOps F] := FVec F S512x256 .f32

/-- One device's share of a layer on 64 rows: the product with its columns of the first weight, cut off below at
    zero, times its rows of the second. -/
def mlp (w : WIn F) (v : WOut F) (x : Pair F) : Pair F :=
  matmul dot_S64x512_S512x256_S64x256_1_0_0_1_n_n none
    (maximumf (matmul dot_S64x256_S256x512_S64x512_1_0_0_1_n_n none x w (constant S64x512 .f32 0x00000000#32))
      (broadcast S64x512 (Scalar.ofBits .f32 0x00000000#32)))
    v (constant S64x256 .f32 0x00000000#32)

/-- The first and the last 32 of 64 rows; -/
def lo (p : Pair F) : Blk F := extractStridedSlice S32x256 ![0, 0] p slices_S64x256_o0_0_S32x256
def hi (p : Pair F) : Blk F := extractStridedSlice S32x256 ![32, 0] p slices_S64x256_o32_0_S32x256
/-- two blocks of 32 rows one above the other; -/
def cat (a b : Blk F) : Pair F := concatenate S64x256 0 [⟨S32x256, a⟩, ⟨S32x256, b⟩] concatenates_S32x256_S32x256_S64x256_d0
/-- a block as a slot holds it, and read back. -/
def to5 (a : Blk F) : FVec F S1x1x1x32x256 .f32 := shapeCast S1x1x1x32x256 a shapeCasts_S32x256_S1x1x1x32x256
def of5 (r : FVec F S1x1x1x32x256 .f32) : Blk F := shapeCast S32x256 r shapeCasts_S1x1x1x32x256_S32x256
/-- A received block added to one's own. -/
def plus (a : Blk F) (r : FVec F S1x1x1x32x256 .f32) : Blk F := addf a (of5 r)

/-- The slot of layer `l`'s first exchange of chunk `2 g` or `2 g + 1`, and of its second. -/
abbrev ia (l : Fin 3) (g : Fin 4) (b : Bool) : Fin 48 := ⟨16 * l.val + 2 * g.val + b.toNat, by have := l.isLt; have := g.isLt; cases b <;> simp only [Bool.toNat] <;> simp <;> omega⟩
abbrev ib (l : Fin 3) (g : Fin 4) (b : Bool) : Fin 48 := ⟨16 * l.val + 8 + 2 * g.val + b.toNat, by have := l.isLt; have := g.isLt; cases b <;> simp only [Bool.toNat] <;> simp <;> omega⟩

end Cert.KernelIdeal.Exch

end
-- ==== Proof.KernelIdeal.Values.lean ====
/-
# What the exchanges compute

From the devices' inputs: each device's share of a layer, the sum of two partners' shares after the first exchange,
of all four devices' after the second, and the next layer's input. `val` is the block in each slot.
-/
module

public import proofs.«01_k».proof.Proof.KernelIdeal.Slots
public import Idealize.ShloMosaic.Lib.Pipeline.Value
public import Idealize.ShloMosaic.Lib.ValueIdxCore

@[expose] public section

noncomputable section

namespace Cert.KernelIdeal.Exch

open Cert.KernelIdeal Cert.KernelIdeal.Gen
open Idealize.ShloMosaic

variable {F : FTy → Type} [FloatOps F]

/-- What the devices start from: the input each holds, and its parts of each layer's two weights. -/
structure Inp (F : FTy → Type) [FloatOps F] where
  x : Dev nD → FVec F S256x256 .f32
  w : ℕ → Dev nD → WIn F
  v : ℕ → Dev nD → WOut F

/-- A block for each device and each chunk, the chunk as a group of 64 rows and a half of it. -/
abbrev Chunks (F : FTy → Type) [FloatOps F] := Dev nD → Fin 4 → Bool → Blk F
/-- 64 rows for each device and each group. -/
abbrev Groups (F : FTy → Type) [FloatOps F] := Dev nD → Fin 4 → Pair F

/-- The lower or the upper half of 64 rows. -/
def half (b : Bool) (p : Pair F) : Blk F := match b with
  | false => lo p
  | true => hi p

/-- Each device's share of a layer; -/
def parts (w : Dev nD → WIn F) (v : Dev nD → WOut F) (x : Groups F) : Chunks F := fun d g b => half b (mlp (w d) (v d) (x d g))
/-- its own share and its first partner's; -/
def accs (p : Chunks F) : Chunks F := fun d g b => plus (p d g b) (to5 (p (mate b d) g b))
/-- that and the second partner's; -/
def fulls (a : Chunks F) : Chunks F := fun d g b => plus (a d g b) (to5 (a (mate (!b) d) g b))
/-- the groups of 64 rows these make up. -/
def nexts (a : Chunks F) : Groups F := fun d g => cat (fulls a d g false) (fulls a d g true)

section

variable (I : Inp F)

theorem inbX (g : Fin 4) : ∀ a, (![64 * g.val, 0] : Fin 2 → Nat) a + S64x256.size a ≤ S256x256.size a := by revert g; decide +kernel
/-- Group `g`'s rows of a 256-row matrix. -/
abbrev rcX (g : Fin 4) : Rect S256x256 := Rect.unit (s := S256x256) ![64 * g.val, 0] S64x256.size (inbX g)

/-- The groups of rows of the input. -/
def rows : Groups F := fun d g => fun i => I.x d ((rcX g).emb i)

/-- Each device's share of layer `l`. -/
def P : ℕ → Chunks F
  | 0 => parts (I.w 0) (I.v 0) (rows I)
  | l + 1 => parts (I.w (l + 1)) (I.v (l + 1)) (nexts (accs (P l)))

/-- The input of layer `l`. -/
def X : ℕ → Groups F
  | 0 => rows I
  | l + 1 => nexts (accs (P I l))

theorem P_eq (l : ℕ) : P I l = parts (I.w l) (I.v l) (X I l) := by cases l <;> rfl

/-- The block in slot `n` of device `d`. -/
def val (d : Dev nD) (n : Fin 48) : Blk F :=
  (if n.val / 8 % 2 = 0 then P I (n.val / 16) else accs (P I (n.val / 16))) d ⟨n.val % 8 / 2, by omega⟩ (n.val % 2 == 1)

theorem kind_ia (l : Fin 3) (g : Fin 4) (b : Bool) : kind (ia l g b) = b := by revert l g b; decide +kernel
theorem kind_ib (l : Fin 3) (g : Fin 4) (b : Bool) : kind (ib l g b) = !b := by revert l g b; decide +kernel

theorem val_at (d : Dev nD) (n : Fin 48) {l : ℕ} {g : Fin 4} {b : Bool} (hl : n.val / 16 = l) (hg : n.val % 8 / 2 = g.val) (hb : (n.val % 2 == 1) = b) :
    val I d n = (if n.val / 8 % 2 = 0 then P I l else accs (P I l)) d g b := by
  obtain ⟨g, hg'⟩ := g
  subst hl hb hg
  rfl

theorem val_ia (d : Dev nD) (l : Fin 3) (g : Fin 4) (b : Bool) : val I d (ia l g b) = P I l.val d g b := by
  have h : ∀ (l : Fin 3) (g : Fin 4) (b : Bool), (ia l g b).val / 8 % 2 = 0 ∧ (ia l g b).val / 16 = l.val ∧ (ia l g b).val % 8 / 2 = g.val ∧ ((ia l g b).val % 2 == 1) = b := by
    decide +kernel
  obtain ⟨h1, h2, h3, h4⟩ := h l g b
  rw [val_at I d _ h2 h3 h4, if_pos h1]

theorem val_ib (d : Dev nD) (l : Fin 3) (g : Fin 4) (b : Bool) : val I d (ib l g b) = accs (P I l.val) d g b := by
  have h : ∀ (l : Fin 3) (g : Fin 4) (b : Bool), ¬(ib l g b).val / 8 % 2 = 0 ∧ (ib l g b).val / 16 = l.val ∧ (ib l g b).val % 8 / 2 = g.val ∧ ((ib l g b).val % 2 == 1) = b := by
    decide +kernel
  obtain ⟨h1, h2, h3, h4⟩ := h l g b
  rw [val_at I d _ h2 h3 h4, if_neg h1]

/-- Adding what the first exchange brings makes the block of the second; -/
theorem plus_ia (c : Dev nD) (l : Fin 3) (g : Fin 4) (b : Bool) : plus (val I c (ia l g b)) (to5 (val I (peer c (ia l g b)) (ia l g b))) = val I c (ib l g b) := by
  rw [val_ib, val_ia, val_ia, peer, kind_ia]; rfl
/-- adding what the second brings makes the layer's result. -/
theorem plus_ib (c : Dev nD) (l : Fin 3) (g : Fin 4) (b : Bool) : plus (val I c (ib l g b)) (to5 (val I (peer c (ib l g b)) (ib l g b))) = fulls (accs (P I l.val)) c g b := by
  rw [val_ib, val_ib, peer, kind_ib]; rfl

/-- What device `c` ends with: row `i` is of the group `i / 64`, of its half `i / 32 % 2`. -/
def outAt (c : Dev nD) : FVec F S256x256 .f32 := fun i =>
  fulls (accs (P I 2)) c ⟨(i 0).val / 64, by have : (i 0).val < 256 := (i 0).isLt; omega⟩ ((i 0).val / 32 % 2 == 1)
    (ValueIdx.ix2 ⟨(i 0).val % 32, by omega⟩ ⟨(i 1).val, (i 1).isLt⟩)

end

end Cert.KernelIdeal.Exch

end
-- ==== Proof.KernelIdeal.Program.lean ====
/-
# The kernel's body as a program over slots

The body of the kernel is one straight line of some three hundred memory operations. Here it is written as three
layers, each of four groups of rows, over two building blocks: `sendK` (fill a slot and send it) and `recvK` (wait
for a slot's transfers and read what arrived). `body_eq` states that the printed body is this program.
-/
module

public import proofs.«01_k».proof.Proof.KernelIdeal.Values
public import Idealize.ShloMosaic.Lib.Pipeline.Regions

@[expose] public section

noncomputable section

namespace Cert.KernelIdeal.Exch

open Cert.KernelIdeal Cert.KernelIdeal.Gen
open Idealize.ShloMosaic
open Idealize.ShloMosaic.TcCoe
open Idealize.SL.Sem

variable {F : FTy → Type} [FloatOps F]

/-- A program of the kernel. -/
abbrev KProg (F : FTy → Type) [FloatOps F] := Prog (TpuEff nD τ sig (Elt F) Λ₀ .tc) PUnit

/-- Fill slot `n` of the send buffer with `a` and start its transfer (the slot is read first, to no purpose). -/
def sendK (d : Dev nD) (n : Fin 48) (a : Blk F) (k : KProg F) : KProg F :=
  .op (.load sM (rc n).toLoadRect (View.loadsAt_vmem h_S1x1x1x32x256)) fun _ =>
  .op (.store sM (rc n) (to5 a) Finset.univ (View.stores_vmem_bits_univ h_S1x1x1x32x256 rfl) (.inl rfl)) fun _ =>
  .op (.enqueueDma (sl sM n) (.remote (Dev.tc (tgt d n)) (sl rM n) (.dma (sendS n))) (.dma (recvS n))
    ((View.wordExact_bits rfl).reshape _ _) ((View.wordExact_bits rfl).reshape _ _) ⟨⟨rfl, Or.inl rfl⟩, trivial⟩) fun _ => k

/-- Wait until slot `n` has been sent and received, and read what was received. -/
def recvK (n : Fin 48) (k : FVec F S1x1x1x32x256 .f32 → KProg F) : KProg F :=
  .op (.waitDma2 (sendS n) (sl rM n) (sl sM n) ((View.wordExact_bits rfl).reshape _ _) ((View.wordExact_bits rfl).reshape _ _)) fun _ =>
  .op (.waitDma2 (recvS n) (sl sM n) (sl rM n) ((View.wordExact_bits rfl).reshape _ _) ((View.wordExact_bits rfl).reshape _ _)) fun _ =>
  .op (.load rM (rc n).toLoadRect (View.loadsAt_vmem h_S1x1x1x32x256)) fun (r : Vec F S1x1x1x32x256 .f32) => k r

/-- Read a layer's two weights. -/
def weightsK (w : Memref sig .tc .vmem S256x512 .f32) (v : Memref sig .tc .vmem S512x256 .f32) (k : WIn F → WOut F → KProg F) : KProg F :=
  .op (.load w (Rect.unit (s := S256x512) ![0, 0] S256x512.size inb_S256x512_S256x512_0_0).toLoadRect (View.loadsAt_vmem h_S256x512)) fun a =>
  .op (.load v (Rect.unit (s := S512x256) ![0, 0] S512x256.size inb_S512x256_S512x256_0_0).toLoadRect (View.loadsAt_vmem h_S512x256)) fun b =>
  k (shapeCast S256x512 a shapeCasts_S256x512_S256x512) (shapeCast S512x256 b shapeCasts_S512x256_S512x256)

theorem inbO (g : Fin 4) (b : Bool) : ∀ a, (![64 * g.val + 32 * b.toNat, 0] : Fin 2 → Nat) a + S32x256.size a ≤ S256x256.size a := by revert g b; decide +kernel

/-- One chunk's rows of a 256-row matrix. -/
abbrev rcO (g : Fin 4) (b : Bool) : Rect S256x256 := Rect.unit (s := S256x256) ![64 * g.val + 32 * b.toNat, 0] S32x256.size (inbO g b)

/-- Group `g`'s rows of the input, read; -/
def inputK (g : Fin 4) (k : Pair F → KProg F) : KProg F :=
  .op (.load (Memref.whole cc0_stg0_0 : Memref sig .tc .vmem S256x256 .f32) (rcX g).toLoadRect (View.loadsAt_vmem h_S64x256)) fun x =>
  k (shapeCast S64x256 x shapeCasts_S64x256_S64x256)

/-- of a later layer's input: the group's two chunks received in the second exchange of layer `l`, added to this device's. -/
def joinK (l : Fin 3) (g : Fin 4) (a b : Blk F) (k : Pair F → KProg F) : KProg F :=
  recvK (ib l g false) fun r => recvK (ib l g true) fun s => k (cat (plus a r) (plus b s))

/-- The group's first exchange: this device's share of the layer, sent chunk by chunk. -/
def firstK (d : Dev nD) (l : Fin 3) (g : Fin 4) (w : WIn F) (v : WOut F) (x : Pair F) (k : Blk F → Blk F → KProg F) : KProg F :=
  sendK d (ia l g false) (lo (mlp w v x)) (sendK d (ia l g true) (hi (mlp w v x)) (k (lo (mlp w v x)) (hi (mlp w v x))))

/-- Its second: each chunk received, added to this device's, and sent on. -/
def secondK (d : Dev nD) (l : Fin 3) (g : Fin 4) (a b : Blk F) (k : Blk F → Blk F → KProg F) : KProg F :=
  recvK (ia l g false) fun r => sendK d (ib l g false) (plus a r)
    (recvK (ia l g true) fun s => sendK d (ib l g true) (plus b s) (k (plus a r) (plus b s)))

/-- The four groups' second exchanges. -/
def secondsK (d : Dev nD) (l : Fin 3) (a0 b0 a1 b1 a2 b2 a3 b3 : Blk F)
    (k : Blk F → Blk F → Blk F → Blk F → Blk F → Blk F → Blk F → Blk F → KProg F) : KProg F :=
  secondK d l 0 a0 b0 fun a0 b0 => secondK d l 1 a1 b1 fun a1 b1 => secondK d l 2 a2 b2 fun a2 b2 => secondK d l 3 a3 b3 fun a3 b3 =>
  k a0 b0 a1 b1 a2 b2 a3 b3

/-- The first layer, on the input; -/
def headK (d : Dev nD) (w : WIn F) (v : WOut F)
    (k : Blk F → Blk F → Blk F → Blk F → Blk F → Blk F → Blk F → Blk F → KProg F) : KProg F :=
  inputK 0 fun x => firstK d 0 0 w v x fun a0 b0 => inputK 1 fun x => firstK d 0 1 w v x fun a1 b1 =>
  inputK 2 fun x => firstK d 0 2 w v x fun a2 b2 => inputK 3 fun x => firstK d 0 3 w v x fun a3 b3 =>
  secondsK d 0 a0 b0 a1 b1 a2 b2 a3 b3 k

/-- a later layer `l'`, on what layer `l` leaves. -/
def nextK (d : Dev nD) (l l' : Fin 3) (w : WIn F) (v : WOut F) (a0 b0 a1 b1 a2 b2 a3 b3 : Blk F)
    (k : Blk F → Blk F → Blk F → Blk F → Blk F → Blk F → Blk F → Blk F → KProg F) : KProg F :=
  joinK l 0 a0 b0 fun x => firstK d l' 0 w v x fun a0 b0 => joinK l 1 a1 b1 fun x => firstK d l' 1 w v x fun a1 b1 =>
  joinK l 2 a2 b2 fun x => firstK d l' 2 w v x fun a2 b2 => joinK l 3 a3 b3 fun x => firstK d l' 3 w v x fun a3 b3 =>
  secondsK d l' a0 b0 a1 b1 a2 b2 a3 b3 k

/-- The result buffer. -/
abbrev oM : Memref sig .tc .vmem S256x256 .f32 := Memref.whole cc0_stg7_0

/-- A chunk of the result: received, added to this device's, stored (the place is read first, to no purpose). -/
def storeK (g : Fin 4) (b : Bool) (a : Blk F) (k : KProg F) : KProg F :=
  recvK (ib 2 g b) fun r =>
  .op (.load oM (rcO g b).toLoadRect (View.loadsAt_vmem h_S32x256)) fun _ =>
  .op (.store oM (rcO g b) (plus a r) Finset.univ (View.stores_vmem_bits_univ h_S32x256 rfl) (.inl rfl)) fun _ => k

/-- All eight of them. -/
def tailK (a0 b0 a1 b1 a2 b2 a3 b3 : Blk F) (k : KProg F) : KProg F :=
  storeK 0 false a0 <| storeK 0 true b0 <| storeK 1 false a1 <| storeK 1 true b1 <|
  storeK 2 false a2 <| storeK 2 true b2 <| storeK 3 false a3 <| storeK 3 true b3 k

/-- What follows the handshake. -/
def layersK (d : Dev nD) : KProg F :=
  weightsK (Memref.whole cc0_stg1_0) (Memref.whole cc0_stg2_0) fun w v =>
  headK d w v fun a0 b0 a1 b1 a2 b2 a3 b3 =>
  weightsK (Memref.whole cc0_stg3_0) (Memref.whole cc0_stg4_0) fun w v =>
  nextK d 0 1 w v a0 b0 a1 b1 a2 b2 a3 b3 fun a0 b0 a1 b1 a2 b2 a3 b3 =>
  weightsK (Memref.whole cc0_stg5_0) (Memref.whole cc0_stg6_0) fun w v =>
  nextK d 1 2 w v a0 b0 a1 b1 a2 b2 a3 b3 fun a0 b0 a1 b1 a2 b2 a3 b3 =>
  tailK a0 b0 a1 b1 a2 b2 a3 b3 (.ret ⟨⟩)

/-- The body: signal both partners, wait for both, then the layers. -/
def bodyK : KProg F :=
  .op .deviceId fun d =>
  .op (.semSignal (Dev.tc (⟨k0_dev1 d, k0_dev1_lt d⟩ : Dev nD)) barS (1#32).toInt) fun _ =>
  .op (.semSignal (Dev.tc (⟨k0_dev2 d, k0_dev2_lt d⟩ : Dev nD)) barS (1#32).toInt) fun _ =>
  .op (.semWait barS (2#32).toInt) fun _ =>
  layersK d

/-- The printed body is this program. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 = bodyK := by
  chain_rfl

end Cert.KernelIdeal.Exch

end
-- ==== Proof.KernelIdeal.Protocol.lean ====
/-
# The protocol of the exchanges

Every device has one barrier cell and, for each of the 48 slots, a send cell and a receive cell. A barrier cell is
signalled once by each of the device's two partners, and each partner's signal hands over that partner's receive
slots for the exchanges between the two. A transfer hands the send slot back through the sender's send cell and the
filled receive slot through the receiver's receive cell. The slots are filled with `vl c n`, any assignment of
blocks to devices and slots.
-/
module

public import proofs.«01_k».proof.Proof.KernelIdeal.Program
public import Idealize.ShloMosaic.Lib.Pipeline.Launch
public import Idealize.ShloMosaic.Lib.Pipeline.Kit
public import Idealize.ShloMosaic.Lib.Tactic

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the staging's and the exchanges' -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Cells -/

/-- Which array and which slot a semaphore belongs to: `false` the send array, `true` the receive array. -/
def slotOf (q : DmaSem sig) : Option (Bool × Fin 48) :=
  if q.val < 8 then none
  else if q.val < 56 then some (false, ⟨(16 * ((q.val - 8) / 16) + 8 * (q.val % 2) + (q.val - 8) % 16 / 2) % 48, Nat.mod_lt _ (by decide)⟩)
  else some (true, ⟨(16 * ((q.val - 56) / 16) + 8 * (q.val % 2) + (q.val - 56) % 16 / 2) % 48, Nat.mod_lt _ (by decide)⟩)

theorem slotOf_send (n : Fin 48) : slotOf (sendS n) = some (false, n) := by revert n; decide +kernel
theorem slotOf_recv (n : Fin 48) : slotOf (recvS n) = some (true, n) := by revert n; decide +kernel

abbrev barCell (c : Dev nD) : GSem nD τ sig := ((c : Thread nD τ), .reg barS)
abbrev sendCell (c : Dev nD) (n : Fin 48) : GSem nD τ sig := ((c : Thread nD τ), .dma (sendS n))
abbrev recvCell (c : Dev nD) (n : Fin 48) : GSem nD τ sig := ((c : Thread nD τ), .dma (recvS n))

/-- A device's cells: the barrier's, and each slot's send and receive cell. -/
abbrev CI : Type := Option (Bool × Fin 48)
abbrev csem : CI → SemLoc sig
  | none => .reg barS
  | some (false, n) => .dma (sendS n)
  | some (true, n) => .dma (recvS n)
abbrev kcell (ck : Dev nD × CI) : GSem nD τ sig := ((ck.1 : Thread nD τ), csem ck.2)

/-- What one slot's transfer credits. -/
def N : ℕ := (sl sM 0).view.dmaCredit
theorem N_pos : 0 < N := View.dmaCredit_pos _ (by decide)
theorem credit_eq (M : Memref sig .tc .vmem S3x8x2x32x256 .f32) (n : Fin 48) : (sl M n).view.dmaCredit = N := rfl

/-! ## Slots -/

def sPts (c : Dev nD) (n : Fin 48) (f : Buf (Elt F) ((sM).view.loc (c : Thread nD τ))) : sProp 𝕄 :=
  (sl sM n).view.loc (c : Thread nD τ) ↦[(sl sM n).view.set]{fullShare} f
def rPts (c : Dev nD) (n : Fin 48) (f : Buf (Elt F) ((rM).view.loc (c : Thread nD τ))) : sProp 𝕄 :=
  (sl rM n).view.loc (c : Thread nD τ) ↦[(sl rM n).view.set]{fullShare} f

omit [FloatOps F] in
instance sPts_storable (c : Dev nD) (n) (f) : BI.Storable (upEmb : UEmb _ 𝕄) (sPts (F := F) c n f) := by unfold sPts; infer_instance
omit [FloatOps F] in
instance rPts_storable (c : Dev nD) (n) (f) : BI.Storable (upEmb : UEmb _ 𝕄) (rPts (F := F) c n f) := by unfold rPts; infer_instance

/-- A slot with any contents. -/
def sAny (c : Dev nD) (n : Fin 48) : sProp 𝕄 := iprop(∃ f, sPts (F := F) c n f)
def rAny (c : Dev nD) (n : Fin 48) : sProp 𝕄 := iprop(∃ f, rPts (F := F) c n f)
omit [FloatOps F] in
instance sAny_storable (c : Dev nD) (n) : BI.Storable (upEmb : UEmb _ 𝕄) (sAny (F := F) c n) := by unfold sAny; infer_instance
omit [FloatOps F] in
instance rAny_storable (c : Dev nD) (n) : BI.Storable (upEmb : UEmb _ 𝕄) (rAny (F := F) c n) := by unfold rAny; infer_instance

/-- A slot's elements are the elements of its block of the buffer. -/
theorem sl_set (M : Memref sig .tc .vmem S3x8x2x32x256 .f32) (n : Fin 48) : (sl M n).view.set = (M.access (rc n)).set := View.set_reshape _ _

/-- What a transfer writes is what it read: the block of the receive slot is the block of the send slot. -/
theorem moved (n : Fin 48) (fs : (cc0_scratch0 : Ref sig .tc).ty.Contents (Elt F)) (fd : (cc0_scratch1 : Ref sig .tc).ty.Contents (Elt F)) :
    (rM.access (rc n)).read (Elt F) ((sl rM n).view.write (Elt F) fd ((sl sM n).view.read (Elt F) fs) Finset.univ)
      = (sM.access (rc n)).read (Elt F) fs := by
  have h := View.read_write_univ (v := (sl rM n).view) (Val := Elt F) fd ((sl sM n).view.read (Elt F) fs)
  funext y
  have e := congrFun h ((Shape.reshapeEquiv (s := S1x1x1x32x256) (s' := S32x256) (by decide)).symm y)
  have e1 : ∀ (M : Memref sig .tc .vmem S3x8x2x32x256 .f32) (f : M.view.ty.Contents (Elt F)),
      (sl M n).view.read (Elt F) f ((Shape.reshapeEquiv (s := S1x1x1x32x256) (s' := S32x256) (by decide)).symm y) = (M.access (rc n)).read (Elt F) f y := by
    intro M f
    show (M.access (rc n)).read (Elt F) f ((Shape.reshapeEquiv (s := S1x1x1x32x256) (s' := S32x256) (by decide)) ((Shape.reshapeEquiv (s := S1x1x1x32x256) (s' := S32x256) (by decide)).symm y)) = _
    rw [Equiv.apply_symm_apply]
  rw [e1, e1] at e
  exact e

/-! ## The schedule -/

section Sched

variable (vl : Dev nD → Fin 48 → Blk F)

/-- What partner `b`'s signal hands a device: the partner's receive slots of the exchanges in direction `b`. -/
def barPay (c : Dev nD) (b : Bool) : sProp 𝕄 := bigSep (Finset.univ.filter fun n : Fin 48 => kind n = b) fun n => rAny (mate b c) n
/-- What a receive cell hands the device: the slot, holding the partner's block. -/
def recvPay (c : Dev nD) (n : Fin 48) : sProp 𝕄 :=
  iprop(∃ f, ⌜(rM.access (rc n)).read (Elt F) f = to5 (vl (peer c n) n)⌝ ∗ rPts c n f)

omit [FloatOps F] in
instance barPay_storable (c : Dev nD) (b) : BI.Storable (upEmb : UEmb _ 𝕄) (barPay (F := F) c b) := by unfold barPay; infer_instance
instance recvPay_storable (c : Dev nD) (n) : BI.Storable (upEmb : UEmb _ 𝕄) (recvPay vl c n) := by unfold recvPay; infer_instance

/-- A cell's payload, by its semaphore. -/
def payOf (c : Dev nD) : SemLoc sig → Bool → sProp 𝕄
  | .reg _, b => barPay c b
  | .dma q, _ => match slotOf q with
    | none => iprop(emp)
    | some (false, n) => sAny c n
    | some (true, n) => recvPay vl c n

/-- A cell's duties: two of a barrier cell, one of a slot's. -/
def dutiesOf : SemLoc sig → Finset Bool
  | .reg _ => Finset.univ
  | .dma q => if (slotOf q).isSome then {false} else ∅

/-- What one duty of a cell is worth. -/
def unitOf : SemLoc sig → ℕ
  | .reg _ => 1
  | .dma _ => N

/-- One round of every cell. -/
def Rd : Rounds.Schedule (GSem nD τ sig) Bool 𝕄 where
  duties g r := if r = 0 ∧ g.1.2 = .tc then dutiesOf g.2 else ∅
  unitless _ := False
  amount g _ _ := unitOf g.2
  payload g _ d := payOf vl g.1.1 g.2 d
  amount_pos g _ _ _ := by
    obtain ⟨_, s | q⟩ := g
    · exact Nat.one_pos
    · exact N_pos

instance Rd_payload_storable (g : GSem nD τ sig) (r : ℕ) (d : Bool) : BI.Storable (upEmb : UEmb _ 𝕄) ((Rd vl).payload g r d) := by
  show BI.Storable upEmb (payOf vl g.1.1 g.2 d)
  obtain ⟨_, s | q⟩ := g
  · show BI.Storable upEmb (barPay _ _); infer_instance
  · show BI.Storable upEmb (match slotOf q with
      | none => iprop(emp)
      | some (false, n) => sAny _ n
      | some (true, n) => recvPay vl _ n)
    split <;> infer_instance

variable (c : Dev nD) (n : Fin 48)

theorem duties_bar : (Rd vl).duties (barCell c) 0 = Finset.univ := by dsimp only [Rd]; exact if_pos ⟨rfl, rfl⟩
theorem duties_send : (Rd vl).duties (sendCell c n) 0 = {false} := by
  dsimp only [Rd]; rw [if_pos ⟨rfl, rfl⟩]; dsimp only [dutiesOf]; rw [slotOf_send]; rfl
theorem duties_recv : (Rd vl).duties (recvCell c n) 0 = {false} := by
  dsimp only [Rd]; rw [if_pos ⟨rfl, rfl⟩]; dsimp only [dutiesOf]; rw [slotOf_recv]; rfl
theorem duties_later (g : GSem nD τ sig) : ∀ r, 1 ≤ r → (Rd vl).duties g r = ∅ :=
  fun r hr => by dsimp only [Rd]; rw [if_neg fun h => by omega]

theorem amount_bar (d : Bool) : (Rd vl).amount (barCell c) 0 d = 1 := rfl
theorem amount_send (d : Bool) : (Rd vl).amount (sendCell c n) 0 d = N := rfl
theorem amount_recv (d : Bool) : (Rd vl).amount (recvCell c n) 0 d = N := rfl

theorem expect_bar : (Rd vl).expect (barCell c) 0 = 2 := by
  unfold Schedule.expect Schedule.amountOf
  rw [duties_bar, Finset.sum_congr rfl fun d _ => amount_bar vl c d, Finset.sum_const, Finset.card_univ, Fintype.card_bool, smul_eq_mul]
theorem expect_send : (Rd vl).expect (sendCell c n) 0 = N := by
  unfold Schedule.expect Schedule.amountOf; rw [duties_send, Finset.sum_singleton, amount_send]
theorem expect_recv : (Rd vl).expect (recvCell c n) 0 = N := by
  unfold Schedule.expect Schedule.amountOf; rw [duties_recv, Finset.sum_singleton, amount_recv]

theorem payload_bar (b : Bool) : (Rd vl).payload (barCell c) 0 b = barPay c b := rfl
theorem payload_send (d : Bool) : (Rd vl).payload (sendCell c n) 0 d = sAny c n := by
  dsimp only [Rd, payOf]; rw [slotOf_send]
theorem payload_recv (d : Bool) : (Rd vl).payload (recvCell c n) 0 d = recvPay vl c n := by
  dsimp only [Rd, payOf]; rw [slotOf_recv]

theorem rest_bar : bigSep ((Rd vl).duties (barCell c) 0 \ ∅) (fun d => (Rd vl).payload (barCell c) 0 d) = iprop(barPay c false ∗ barPay c true) := by
  rw [Finset.sdiff_empty, duties_bar, bigSep_univ_eq_bigSepL [false, true] (by decide) (by decide), bigSepL_cons_cons, bigSepL_singleton]
  rfl
theorem rest_send : bigSep ((Rd vl).duties (sendCell c n) 0 \ ∅) (fun d => (Rd vl).payload (sendCell c n) 0 d) = sAny c n := by
  rw [Finset.sdiff_empty, duties_send, bigSep_singleton, payload_send]
theorem rest_recv : bigSep ((Rd vl).duties (recvCell c n) 0 \ ∅) (fun d => (Rd vl).payload (recvCell c n) 0 d) = recvPay vl c n := by
  rw [Finset.sdiff_empty, duties_recv, bigSep_singleton, payload_recv]

end Sched

/-! ## What a device owes, and the levels -/

/-- After `k` transfers device `c` owes every later slot's receive credit to the partner it goes to. -/
def O (c : Dev nD) (k : ℕ) : CellTallies nD τ sig Unit :=
  ∑ n : Fin 48, if k ≤ n.val then tallyAt (recvCell (peer c n) n) () N else 0

/-- At launch also one unit to each partner's barrier; after the first signal, only to the second. -/
def O₁ (c : Dev nD) : CellTallies nD τ sig Unit := O c 0 + tallyAt (barCell (mate true c)) () 1
def O₀ (c : Dev nD) : CellTallies nD τ sig Unit := O₁ c + tallyAt (barCell (mate false c)) () 1

theorem O_step (c : Dev nD) (n : Fin 48) : O c n.val = O c (n.val + 1) + tallyAt (recvCell (peer c n) n) () N := by
  unfold O
  have h : ∀ i : Fin 48, (if n.val ≤ i.val then tallyAt (recvCell (peer c i) i) () N else 0 : CellTallies nD τ sig Unit)
      = (if n.val + 1 ≤ i.val then tallyAt (recvCell (peer c i) i) () N else 0) + (if n = i then tallyAt (recvCell (peer c i) i) () N else 0) := by
    intro i
    by_cases h1 : n = i
    · subst h1; rw [if_pos le_rfl, if_neg (by omega), if_pos rfl, zero_add]
    · have : n.val ≠ i.val := fun h => h1 (Fin.ext h)
      rw [if_neg h1, add_zero]
      by_cases h2 : n.val ≤ i.val
      · rw [if_pos h2, if_pos (by omega)]
      · rw [if_neg h2, if_neg (by omega)]
  rw [Finset.sum_congr rfl fun i _ => h i, Finset.sum_add_distrib, Finset.sum_ite_eq, if_pos (Finset.mem_univ _)]

theorem O_end (c : Dev nD) : O c 48 = 0 := by
  unfold O; exact Finset.sum_eq_zero fun n _ => if_neg (by have := n.isLt; omega)

theorem O_pos {c : Dev nD} {k : ℕ} {g : GSem nD τ sig} {u : Unit} (h : 0 < O c k g u) : ∃ n : Fin 48, k ≤ n.val ∧ g = recvCell (peer c n) n := by
  unfold O at h
  rw [Finset.sum_apply, Finsupp.finset_sum_apply] at h
  obtain ⟨n, -, hn⟩ := Finset.exists_ne_zero_of_sum_ne_zero (Nat.pos_iff_ne_zero.mp h)
  by_cases hk : k ≤ n.val
  · rw [if_pos hk, tallyAt_apply] at hn
    refine ⟨n, hk, ?_⟩
    by_contra hg
    exact hn (if_neg fun h' => hg h'.1)
  · rw [if_neg hk] at hn; exact absurd rfl hn

theorem O₀_pos {c : Dev nD} {g : GSem nD τ sig} {u : Unit} (h : 0 < O₀ c g u) :
    (∃ n : Fin 48, g = recvCell (peer c n) n) ∨ ∃ b, g = barCell (mate b c) := by
  unfold O₀ O₁ at h
  rw [Pi.add_apply, Finsupp.add_apply, Pi.add_apply, Finsupp.add_apply, tallyAt_apply, tallyAt_apply] at h
  by_contra hn
  rw [not_or] at hn
  rw [if_neg (fun h' => hn.2 ⟨true, h'.1⟩), if_neg (fun h' => hn.2 ⟨false, h'.1⟩)] at h
  obtain ⟨n, -, hg⟩ := O_pos (c := c) (k := 0) (g := g) (u := u) (by simpa using h)
  exact hn.1 ⟨n, hg⟩

def L (g : GSem nD τ sig) : Finset Unit := if g.1.2 = .tc then {()} else ∅
/-- A semaphore's level: staging and send cells lowest, then the barrier, then the receive cells in slot order. -/
def lvOf : SemLoc sig → ℕ
  | .reg _ => 1
  | .dma q => match slotOf q with
    | some (true, n) => n.val + 2
    | _ => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lvOf_recv (n : Fin 48) : lvOf (.dma (recvS n)) = n.val + 2 := by dsimp only [lvOf]; rw [slotOf_recv]
theorem lvOf_send (n : Fin 48) : lvOf (.dma (sendS n)) = 0 := by dsimp only [lvOf]; rw [slotOf_send]

omit [FloatOps F] in
/-- A device may wait on a semaphore whose level is below that of every slot it still has to send. -/
theorem mayWait_lt (c : Dev nD) (sm : SemLoc sig) (k : ℕ) (h : lvOf sm < k + 2) : (levAts L lv : sProp 𝕄) ⊢ MayWait (c : Thread nD τ) sm () (O c k) :=
  MayOwe.of_cut (L := L) (lev := lv) (lvOf sm) (fun p hp => by rw [Finset.mem_singleton.mp hp, L_tc]; exact Finset.mem_singleton_self _)
    (fun g u hg => by obtain ⟨n, -, rfl⟩ := O_pos hg; exact Finset.mem_singleton_self _)
    (fun p hp => by rw [Finset.mem_singleton.mp hp]; exact le_rfl)
    (fun g u hg => by
      obtain ⟨n, hn, rfl⟩ := O_pos hg
      show lvOf sm < lvOf (.dma (recvS n))
      rw [lvOf_recv]; omega)

omit [FloatOps F] in
/-- It may wait on a staging semaphore owing everything it owes at launch, or nothing. -/
theorem mayWait_stage (c : Dev nD) (sm : SemLoc sig) (hq : lvOf sm = 0) (W : CellTallies nD τ sig Unit) (hO : W = O₀ c ∨ W = 0) :
    (levAts L lv : sProp 𝕄) ⊢ MayWait (c : Thread nD τ) sm () W := by
  rcases hO with rfl | rfl
  · refine MayOwe.of_cut (L := L) (lev := lv) 0 (fun p hp => by rw [Finset.mem_singleton.mp hp, L_tc]; exact Finset.mem_singleton_self _)
      (fun g u hg => by rcases O₀_pos hg with ⟨n, rfl⟩ | ⟨b, rfl⟩ <;> exact Finset.mem_singleton_self _)
      (fun p hp => by rw [Finset.mem_singleton.mp hp]; exact hq.le)
      (fun g u hg => by
        rcases O₀_pos hg with ⟨n, rfl⟩ | ⟨b, rfl⟩
        · show 0 < lvOf (.dma (recvS n)); rw [lvOf_recv]; omega
        · exact Nat.one_pos)
  · rw [MayWait_zero]; iintro -; iempintro

/-! ## A device between two events -/

section State

variable (vl : Dev nD → Fin 48 → Blk F) (K : Dev nD × CI → ℕ)

/-- The cells' invariants and that every cell has reached its round. -/
def recs : sProp 𝕄 := bigSep Finset.univ fun ck : Dev nD × CI => iprop(cellInv ER (Rd vl) (K ck) (kcell ck) ∗ reached ER (kcell ck) 0)

instance recs_persistent : BI.Persistent (recs vl K) := by unfold recs; infer_instance

theorem inv_at (ck : Dev nD × CI) : recs vl K ⊢ iprop(cellInv ER (Rd vl) (K ck) (kcell ck) ∗ reached ER (kcell ck) 0) := by
  unfold recs; exact (BI.bigSep_elim (Finset.mem_univ ck)).trans (BI.Entails.refl _)

/-- A slot before its transfer: both ends' buffers, what paying its two cells takes, and its receive credit; -/
def todo (c : Dev nD) (n : Fin 48) : sProp 𝕄 :=
  iprop(sAny c n ∗ rAny (peer c n) n ∗ dutyTok ER (sendCell c n) 0 false ∗ dutyTok ER (recvCell (peer c n) n) 0 false
    ∗ atPos ER (sendCell c n) 0 ∅ 0 ∗ atPos ER (recvCell c n) 0 ∅ 0 ∗ cred (tallyAt (recvCell c n) () N))
/-- under way; -/
def fly (c : Dev nD) (n : Fin 48) : sProp 𝕄 :=
  iprop(cred (tallyAt (sendCell c n) () N) ∗ atPos ER (sendCell c n) 0 ∅ 0 ∗ atPos ER (recvCell c n) 0 ∅ 0 ∗ cred (tallyAt (recvCell c n) () N))
/-- and after: the device's two buffers and its two counters at zero. -/
def done (c : Dev nD) (n : Fin 48) : sProp 𝕄 :=
  iprop(sAny c n ∗ rAny c n ∗ semVal (sendCell c n) 0 ∗ semVal (recvCell c n) 0)

/-- Slot `n` when `s` slots have been sent and `r` received. -/
def stage (c : Dev nD) (s r : ℕ) (n : Fin 48) : sProp 𝕄 :=
  if n.val < r then done c n else if n.val < s then fly c n else todo c n

/-- Device `c` when `s` slots have been sent and `r` received. -/
def St (c : Dev nD) (s r : ℕ) : sProp 𝕄 :=
  iprop(recs vl K ∗ levAts L lv ∗ (∃ W, owes (c : Thread nD τ) (O c s) W) ∗ bigSep Finset.univ fun n => stage (F := F) c s r n)

omit [FloatOps F] in
/-- One of all slots apart. -/
theorem pick (n : Fin 48) (Φ : Fin 48 → sProp 𝕄) : bigSep Finset.univ Φ = iprop(Φ n ∗ bigSep (Finset.univ.erase n) Φ) :=
  BI.bigSep_erase (Finset.mem_univ n)

omit [FloatOps F] in
/-- One slot's stage taken out, and another put back in its place. -/
theorem stage_swap (c : Dev nD) (s r s' r' : ℕ) (n : Fin 48) (h : ∀ i, i ≠ n → stage (F := F) c s r i = stage c s' r' i) :
    bigSep Finset.univ (fun i => stage (F := F) c s r i) ⊢ iprop(stage c s r n ∗ (stage c s' r' n -∗ bigSep Finset.univ fun i => stage (F := F) c s' r' i)) := by
  rw [pick n, pick n (fun i => stage (F := F) c s' r' i),
    BI.bigSep_congr fun i hi => h i (Finset.ne_of_mem_erase hi)]
  iintro ⟨H, HR⟩
  isplitl [H]; · iexact H
  iintro H'
  isplitl [H']; · iexact H'
  iexact HR

omit [FloatOps F] in
/-- The slot about to be sent, and what makes it the one last sent. -/
theorem stage_send (c : Dev nD) (n : Fin 48) (r : ℕ) (hr : r ≤ n.val) :
    bigSep Finset.univ (fun i => stage (F := F) c n.val r i) ⊢ iprop(todo c n ∗ (fly c n -∗ bigSep Finset.univ fun i => stage (F := F) c (n.val + 1) r i)) := by
  have h := stage_swap (F := F) c n.val r (n.val + 1) r n fun i hi => by
    have : i.val ≠ n.val := fun h => hi (Fin.ext h)
    unfold stage
    split_ifs <;> first | rfl | (exfalso; omega)
  rw [show stage (F := F) c n.val r n = todo c n by unfold stage; rw [if_neg (by omega), if_neg (by omega)],
    show stage (F := F) c (n.val + 1) r n = fly c n by unfold stage; rw [if_neg (by omega), if_pos (by omega)]] at h
  exact h

omit [FloatOps F] in
/-- The slot about to be received, and what makes it the one last received. -/
theorem stage_recv (c : Dev nD) (n : Fin 48) (s : ℕ) (hs : n.val < s) :
    bigSep Finset.univ (fun i => stage (F := F) c s n.val i) ⊢ iprop(fly c n ∗ (done c n -∗ bigSep Finset.univ fun i => stage (F := F) c s (n.val + 1) i)) := by
  have h := stage_swap (F := F) c s n.val s (n.val + 1) n fun i hi => by
    have : i.val ≠ n.val := fun h => hi (Fin.ext h)
    unfold stage
    split_ifs <;> first | rfl | (exfalso; omega)
  rw [show stage (F := F) c s n.val n = fly c n by unfold stage; rw [if_neg (by omega), if_pos hs],
    show stage (F := F) c s (n.val + 1) n = done c n by unfold stage; rw [if_pos (by omega)]] at h
  exact h

end State

end Cert.KernelIdeal.Exch

end
-- ==== Proof.KernelIdeal.Steps.lean ====
/-
# The two events

What sending a slot and receiving a slot do to a device's state: `send_step` and `recv_step`.
-/
module

public import proofs.«01_k».proof.Proof.KernelIdeal.Protocol

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (vl : Dev nD → Fin 48 → Blk F) (K : Dev nD × CI → ℕ)

/-- A program's weakest precondition on device `c`. -/
abbrev Wp (c : Dev nD) (p : KProg F) (Q : PUnit → sProp 𝕄) : sProp 𝕄 :=
  wp frame (wpE (defs₀ (F := F)) 𝒱₀ (c : Thread nD τ) none) Set.univ p Q

/-- The rule of the transfer at slot `n`'s cells, addressed to `t`, which is the slot's partner. -/
theorem wp_send_slot (c t : Dev nD) (n : Fin 48) (ht : t = peer c n) {hsc : (sl rM n : Memref sig (Dev.tc t : Thread nD τ).2.kind .vmem S32x256 .f32).view.ref.isScScratch = false}
    {hsrc : (sl sM n).view.WordExact} {hdst : (sl rM n).view.WordExact}
    {hsem : DmaTarget.Typed .vmem (.dma (recvS n)) (.remote (Dev.tc t : Thread nD τ) (sl rM n) (.dma (sendS n)) hsc)}
    {Q : PUnit → sProp 𝕄} {k : PUnit → KProg F}
    (fs : Buf (Elt F) ((sM).view.loc (c : Thread nD τ))) (fd : Buf (Elt F) ((rM).view.loc (peer c n : Thread nD τ))) (W : Waits sig Unit)
    (hf : (sM.access (rc n)).read (Elt F) fs = to5 (vl c n)) :
    iprop(cellInv ER (Rd vl) (K (c, some (false, n))) (sendCell c n) ∗ cellInv ER (Rd vl) (K (peer c n, some (true, n))) (recvCell (peer c n) n)
        ∗ sPts c n fs ∗ rPts (peer c n) n fd
        ∗ owes (c : Thread nD τ) (O c n.val) W
        ∗ dutyTok ER (sendCell c n) 0 false ∗ reached ER (sendCell c n) 0
        ∗ dutyTok ER (recvCell (peer c n) n) 0 false ∗ reached ER (recvCell (peer c n) n) 0)
      ⊢ iprop(((cred (tallyAt (sendCell c n) () N) ∗ owes (c : Thread nD τ) (O c (n.val + 1)) W) -∗ Wp c (k ⟨⟩) Q)
          -∗ Wp c (.op (.enqueueDma (sl sM n) (.remote (Dev.tc t : Thread nD τ) (sl rM n) (.dma (sendS n)) hsc) (.dma (recvS n)) hsrc hdst hsem) k) Q) := by
  subst ht
  unfold sPts rPts
  exact Rounds.wp_send_pointsTo 𝒱₀ ER (Rd vl) (c : Thread nD τ) none (c' := (peer c n : Thread nD τ)) (src := sl sM n) (dst := sl rM n)
    (sS := .dma (sendS n)) (sem := .dma (recvS n)) (fs := fs) (κ₁ := K (c, some (false, n))) (κ₂ := K (peer c n, some (true, n)))
    (r₁ := 0) (r₂ := 0) (d₁ := false) (d₂ := false) (fd := fd)
    (by rw [duties_send]; exact Finset.mem_singleton_self _) (by rw [duties_recv]; exact Finset.mem_singleton_self _)
    () () N (credit_eq _ n) (amount_send vl c n false) (amount_recv vl (peer c n) n false) (O c (n.val + 1)) (O_step c n) (W := W)
    (by rw [payload_send]; unfold sAny sPts; iintro H; iexists fs; iexact H)
    (by
      rw [payload_recv]; unfold recvPay rPts
      iintro H
      iexists _
      isplitr
      · ipureintro
        exact (moved n fs fd).trans (hf.trans (by rw [peer_peer]))
      · iexact H)

/-- Sending slot `n`, the next one, filled with the block that goes into it. -/
theorem send_step (c : Dev nD) (n : Fin 48) (r : ℕ) (hr : r ≤ n.val) (a : Blk F) (ha : a = vl c n) (k : KProg F) (Q : PUnit → sProp 𝕄) :
    iprop(St vl K c n.val r ∗ (St vl K c (n.val + 1) r -∗ Wp c k Q)) ⊢ Wp c (sendK c n a k) Q := by
  subst ha
  unfold St sendK
  iintro ⟨⟨#HR, #HL, ⟨%W, HO⟩, HB⟩, Hk⟩
  ihave ⟨Hst, Hput⟩ := (stage_send (F := F) c n r hr) $$ HB
  unfold todo sAny rAny
  icases Hst with ⟨⟨%fs, Hs⟩, ⟨%fd, Hr⟩, Hts, Htr, Hps, Hpr, Hcr⟩
  ihave ⟨#HIs, #Hrs⟩ := (inv_at vl K (c, some (false, n))) $$ HR
  ihave ⟨#HIr, #Hrr⟩ := (inv_at vl K (peer c n, some (true, n))) $$ HR
  ihave Hs := (Entails.of_eq (show sPts c n fs = ((sM).view.loc (c : Thread nD τ) ↦[(sl sM n).view.set]{fullShare} fs : sProp 𝕄) from rfl)) $$ Hs
  iapply (wp_load_rect 𝒱₀ (c : Thread nD τ) none Set.univ (m := sM) (r := rc n) (by rw [sl_set])) $$ Hs; iintro Hs
  iapply (wp_store 𝒱₀ (c : Thread nD τ) none Set.univ (m := sM) (r := rc n) (Mk := Finset.univ) (by rw [sl_set]; exact Finset.Subset.refl _)) $$ Hs; iintro Hs
  iapply (wp_send_slot vl K c _ n (tgt_eq c n) _ fd W (View.read_write_univ (v := sM.access (rc n)) fs (to5 (vl c n)))) $$ [Hs Hr HO Hts Htr]
  · isplitr; · iexact HIs
    isplitr; · iexact HIr
    isplitl [Hs]; · unfold sPts; iexact Hs
    isplitl [Hr]; · iexact Hr
    isplitl [HO]; · iexact HO
    isplitl [Hts]; · iexact Hts
    isplitr; · iexact Hrs
    isplitl [Htr]; · iexact Htr
    iexact Hrr
  iintro ⟨HcS, HO⟩
  iapply Hk
  isplitr; · iexact HR
  isplitr; · iexact HL
  isplitl [HO]; · iexists W; iexact HO
  iapply Hput
  unfold fly
  isplitl [HcS]; · iexact HcS
  isplitl [Hps]; · iexact Hps
  isplitl [Hpr]; · iexact Hpr
  iexact Hcr

/-- Receiving slot `n`, the next one, already sent: what is read is the partner's block. -/
theorem recv_step (c : Dev nD) (n : Fin 48) (s : ℕ) (hs : n.val < s) (k : FVec F S1x1x1x32x256 .f32 → KProg F) (Q : PUnit → sProp 𝕄) :
    iprop(St vl K c s n.val ∗ (St vl K c s (n.val + 1) -∗ Wp c (k (to5 (vl (peer c n) n))) Q)) ⊢ Wp c (recvK n k) Q := by
  unfold St recvK
  iintro ⟨⟨#HR, #HL, ⟨%W, HO⟩, HB⟩, Hk⟩
  ihave ⟨Hst, Hput⟩ := (stage_recv (F := F) c n s hs) $$ HB
  unfold fly
  icases Hst with ⟨HcS, Hps, Hpr, HcR⟩
  ihave ⟨#HIs, #Hrs⟩ := (inv_at vl K (c, some (false, n))) $$ HR
  ihave ⟨#HIr, #Hrr⟩ := (inv_at vl K (c, some (true, n))) $$ HR
  iapply (Rounds.wp_wait_rest_token 𝒱₀ ER (Rd vl) (c : Thread nD τ) none (κ := K (c, some (false, n)))
      (wpE_waitDma2_eq 𝒱₀ (c : Thread nD τ) none Set.univ) (Set.mem_univ _) () (O := O c s) (W := W) (R := 0) (m := 0) (T := ∅)
      (by rw [Nat.zero_add, expect_send]; exact credit_eq _ n)) $$ [HcS HO Hps]
  · isplitr; · iexact HIs
    isplitl [HcS]; · iexact HcS
    isplitl [HO]; · iexact HO
    isplitr; · iapply (mayWait_lt c (.dma (sendS n)) s (by rw [lvOf_send]; omega)); iexact HL
    iexact Hps
  iintro ⟨HO, Hps, -, Hpay⟩
  ihave Hs := (Entails.of_eq (rest_send vl c n)) $$ Hpay
  iapply (Rounds.wp_wait_rest_token 𝒱₀ ER (Rd vl) (c : Thread nD τ) none (κ := K (c, some (true, n)))
      (wpE_waitDma2_eq 𝒱₀ (c : Thread nD τ) none Set.univ) (Set.mem_univ _) () (O := O c s) (W := insert (SemLoc.dma (sendS n), ()) W) (R := 0) (m := 0) (T := ∅)
      (by rw [Nat.zero_add, expect_recv]; exact credit_eq _ n)) $$ [HcR HO Hpr]
  · isplitr; · iexact HIr
    isplitl [HcR]; · iexact HcR
    isplitl [HO]; · iexact HO
    isplitr; · iapply (mayWait_lt c (.dma (recvS n)) s (by rw [lvOf_recv]; omega)); iexact HL
    iexact Hpr
  iintro ⟨HO, Hpr, -, Hpay⟩
  ihave Hr := (Entails.of_eq (rest_recv vl c n)) $$ Hpay
  unfold recvPay
  icases Hr with ⟨%f, %hf, Hr⟩
  imod (Rounds.cell_close ER (Rd vl) (Set.mem_univ (K (c, some (false, n)))) (fun h => h) (R := 0 + 1) (duties_later vl (sendCell c n))) $$ [Hps] with HzS
  · isplitr; · iexact HIs
    iexact Hps
  imod (Rounds.cell_close ER (Rd vl) (Set.mem_univ (K (c, some (true, n)))) (fun h => h) (R := 0 + 1) (duties_later vl (recvCell c n))) $$ [Hpr] with HzR
  · isplitr; · iexact HIr
    iexact Hpr
  ihave Hr := (Entails.of_eq (show rPts c n f = ((rM).view.loc (c : Thread nD τ) ↦[(sl rM n).view.set]{fullShare} f : sProp 𝕄) from rfl)) $$ Hr
  iapply (wp_load_rect 𝒱₀ (c : Thread nD τ) none Set.univ (m := rM) (r := rc n) (by rw [sl_set])) $$ Hr; iintro Hr
  rw [hf]
  iapply Hk
  isplitr; · iexact HR
  isplitr; · iexact HL
  isplitl [HO]; · iexists _; iexact HO
  iapply Hput
  unfold done rAny rPts
  isplitl [Hs]; · iexact Hs
  isplitl [Hr]; · iexists f; iexact Hr
  isplitl [HzS]; · iexact HzS
  iexact HzR

end Cert.KernelIdeal.Exch

end
-- ==== Proof.KernelIdeal.Body.lean ====
/-
# The body

The layers, event by event: from a device's state with nothing sent to its state with all 48 slots sent and
received, the result buffer holding `outAt`.
-/
module

public import proofs.«01_k».proof.Proof.KernelIdeal.Steps

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ) (c : Dev nD)

/-- The state at counts that are `n` and its successor: the send step and the receive step as rules between any two
    expressions of the counts. -/
theorem send_at {n : Fin 48} {s s' r : ℕ} {a : Blk F} (hs : n.val = s) (hs' : s' = s + 1) (hr : r ≤ s) (ha : a = val I c n) {k : KProg F} {Q : PUnit → sProp 𝕄} :
    iprop(St (val I) K c s r ∗ (St (val I) K c s' r -∗ Wp c k Q)) ⊢ Wp c (sendK c n a k) Q := by
  subst hs hs'; exact send_step (val I) K c n r hr a ha k Q

theorem recv_at {n : Fin 48} {s r r' : ℕ} (hr : n.val = r) (hr' : r' = r + 1) (hs : r < s) {k : FVec F S1x1x1x32x256 .f32 → KProg F} {Q : PUnit → sProp 𝕄} :
    iprop(St (val I) K c s r ∗ (St (val I) K c s r' -∗ Wp c (k (to5 (val I (peer c n) n))) Q)) ⊢ Wp c (recvK n k) Q := by
  subst hr hr'; exact recv_step (val I) K c n s hs k Q

/-- A group's first exchange. -/
theorem first_at {l : Fin 3} {g : Fin 4} {s s' r : ℕ} (hs : s = 16 * l.val + 2 * g.val) (hs' : s' = s + 2) (hr : r ≤ s) {w : WIn F} {v : WOut F} {x : Pair F}
    (hw : w = I.w l.val c) (hv : v = I.v l.val c) (hx : x = X I l.val c g) {k : Blk F → Blk F → KProg F} {Q : PUnit → sProp 𝕄} :
    iprop(St (val I) K c s r ∗ (St (val I) K c s' r -∗ Wp c (k (val I c (ia l g false)) (val I c (ia l g true))) Q)) ⊢ Wp c (firstK c l g w v x k) Q := by
  subst hw hv hx
  have e0 : lo (mlp (I.w l.val c) (I.v l.val c) (X I l.val c g)) = val I c (ia l g false) := by rw [val_ia, P_eq]; rfl
  have e1 : hi (mlp (I.w l.val c) (I.v l.val c) (X I l.val c g)) = val I c (ia l g true) := by rw [val_ia, P_eq]; rfl
  unfold firstK
  rw [e0, e1]
  iintro ⟨H, Hk⟩
  iapply (send_at I K c (s := s) (s' := s + 1) (r := r) (by subst hs; simp [ia]) rfl hr rfl)
  isplitl [H]; · iexact H
  iintro H
  iapply (send_at I K c (s := s + 1) (s' := s') (r := r) (by subst hs; simp [ia]) (by omega) (by omega) rfl)
  isplitl [H]; · iexact H
  iexact Hk

/-- A group's second exchange. -/
theorem second_at {l : Fin 3} {g : Fin 4} {s s' r r' : ℕ} (hs : s = 16 * l.val + 8 + 2 * g.val) (hs' : s' = s + 2) (hr : r = 16 * l.val + 2 * g.val) (hr' : r' = r + 2)
    {k : Blk F → Blk F → KProg F} {Q : PUnit → sProp 𝕄} :
    iprop(St (val I) K c s r ∗ (St (val I) K c s' r' -∗ Wp c (k (val I c (ib l g false)) (val I c (ib l g true))) Q))
      ⊢ Wp c (secondK c l g (val I c (ia l g false)) (val I c (ia l g true)) k) Q := by
  unfold secondK
  iintro ⟨H, Hk⟩
  iapply (recv_at I K c (s := s) (r := r) (r' := r + 1) (by subst hr; simp [ia]) rfl (by omega))
  isplitl [H]; · iexact H
  iintro H
  rw [plus_ia]
  iapply (send_at I K c (s := s) (s' := s + 1) (r := r + 1) (by subst hs; simp [ib]) rfl (by omega) rfl)
  isplitl [H]; · iexact H
  iintro H
  iapply (recv_at I K c (s := s + 1) (r := r + 1) (r' := r') (by subst hr; simp [ia]) (by omega) (by omega))
  isplitl [H]; · iexact H
  iintro H
  rw [plus_ia]
  iapply (send_at I K c (s := s + 1) (s' := s') (r := r') (by subst hs; simp [ib]) (by omega) (by omega) rfl)
  isplitl [H]; · iexact H
  iexact Hk

/-- A layer's second exchanges. -/
theorem seconds_at {l : Fin 3} {s s' r r' : ℕ} (hs : s = 16 * l.val + 8) (hs' : s' = s + 8) (hr : r = 16 * l.val) (hr' : r' = r + 8)
    {k : Blk F → Blk F → Blk F → Blk F → Blk F → Blk F → Blk F → Blk F → KProg F} {Q : PUnit → sProp 𝕄} :
    iprop(St (val I) K c s r ∗ (St (val I) K c s' r' -∗ Wp c (k (val I c (ib l 0 false)) (val I c (ib l 0 true)) (val I c (ib l 1 false)) (val I c (ib l 1 true))
          (val I c (ib l 2 false)) (val I c (ib l 2 true)) (val I c (ib l 3 false)) (val I c (ib l 3 true))) Q))
      ⊢ Wp c (secondsK c l (val I c (ia l 0 false)) (val I c (ia l 0 true)) (val I c (ia l 1 false)) (val I c (ia l 1 true))
          (val I c (ia l 2 false)) (val I c (ia l 2 true)) (val I c (ia l 3 false)) (val I c (ia l 3 true)) k) Q := by
  unfold secondsK
  iintro ⟨H, Hk⟩
  iapply (second_at I K c (l := l) (g := 0) (s := s) (s' := s + 2) (r := r) (r' := r + 2) (by simp; omega) rfl (by simp; omega) rfl)
  isplitl [H]; · iexact H
  iintro H
  iapply (second_at I K c (l := l) (g := 1) (s := s + 2) (s' := s + 4) (r := r + 2) (r' := r + 4) (by simp; omega) rfl (by simp; omega) rfl)
  isplitl [H]; · iexact H
  iintro H
  iapply (second_at I K c (l := l) (g := 2) (s := s + 4) (s' := s + 6) (r := r + 4) (r' := r + 6) (by simp; omega) rfl (by simp; omega) rfl)
  isplitl [H]; · iexact H
  iintro H
  iapply (second_at I K c (l := l) (g := 3) (s := s + 6) (s' := s') (r := r + 6) (r' := r') (by simp; omega) (by omega) (by simp; omega) (by omega))
  isplitl [H]; · iexact H
  iexact Hk

/-- A group of a later layer's input, received. -/
theorem join_at {l : Fin 3} {g : Fin 4} {s r r' : ℕ} (hr : r = 16 * l.val + 8 + 2 * g.val) (hs : r + 1 < s) (hr' : r' = r + 2) {k : Pair F → KProg F} {Q : PUnit → sProp 𝕄} :
    iprop(St (val I) K c s r ∗ (St (val I) K c s r' -∗ Wp c (k (X I (l.val + 1) c g)) Q))
      ⊢ Wp c (joinK l g (val I c (ib l g false)) (val I c (ib l g true)) k) Q := by
  unfold joinK
  iintro ⟨H, Hk⟩
  iapply (recv_at I K c (s := s) (r := r) (r' := r + 1) (by subst hr; simp [ib]) rfl (by omega))
  isplitl [H]; · iexact H
  iintro H
  iapply (recv_at I K c (s := s) (r := r + 1) (r' := r') (by subst hr; simp [ib]) (by omega) (by omega))
  isplitl [H]; · iexact H
  iintro H
  rw [plus_ib, plus_ib]
  iapply Hk
  iexact H

/-- A later layer. -/
theorem next_at {l l' : Fin 3} (hl : l'.val = l.val + 1) {s s' r r' : ℕ} (hs : s = 16 * l'.val) (hs' : s' = s + 16) (hr : r + 8 = s) (hr' : r' = r + 16)
    {w : WIn F} {v : WOut F} (hw : w = I.w l'.val c) (hv : v = I.v l'.val c)
    {k : Blk F → Blk F → Blk F → Blk F → Blk F → Blk F → Blk F → Blk F → KProg F} {Q : PUnit → sProp 𝕄} :
    iprop(St (val I) K c s r ∗ (St (val I) K c s' r' -∗ Wp c (k (val I c (ib l' 0 false)) (val I c (ib l' 0 true)) (val I c (ib l' 1 false)) (val I c (ib l' 1 true))
          (val I c (ib l' 2 false)) (val I c (ib l' 2 true)) (val I c (ib l' 3 false)) (val I c (ib l' 3 true))) Q))
      ⊢ Wp c (nextK c l l' w v (val I c (ib l 0 false)) (val I c (ib l 0 true)) (val I c (ib l 1 false)) (val I c (ib l 1 true))
          (val I c (ib l 2 false)) (val I c (ib l 2 true)) (val I c (ib l 3 false)) (val I c (ib l 3 true)) k) Q := by
  unfold nextK
  iintro ⟨H, Hk⟩
  iapply (join_at I K c (l := l) (g := 0) (s := s) (r := r) (r' := r + 2) (by simp; omega) (by omega) rfl)
  isplitl [H]; · iexact H
  iintro H
  iapply (first_at I K c (l := l') (g := 0) (s := s) (s' := s + 2) (r := r + 2) (by simp; omega) rfl (by omega) hw hv (by rw [hl]))
  isplitl [H]; · iexact H
  iintro H
  iapply (join_at I K c (l := l) (g := 1) (s := s + 2) (r := r + 2) (r' := r + 4) (by simp; omega) (by omega) rfl)
  isplitl [H]; · iexact H
  iintro H
  iapply (first_at I K c (l := l') (g := 1) (s := s + 2) (s' := s + 4) (r := r + 4) (by simp; omega) rfl (by omega) hw hv (by rw [hl]))
  isplitl [H]; · iexact H
  iintro H
  iapply (join_at I K c (l := l) (g := 2) (s := s + 4) (r := r + 4) (r' := r + 6) (by simp; omega) (by omega) rfl)
  isplitl [H]; · iexact H
  iintro H
  iapply (first_at I K c (l := l') (g := 2) (s := s + 4) (s' := s + 6) (r := r + 6) (by simp; omega) rfl (by omega) hw hv (by rw [hl]))
  isplitl [H]; · iexact H
  iintro H
  iapply (join_at I K c (l := l) (g := 3) (s := s + 6) (r := r + 6) (r' := r + 8) (by simp; omega) (by omega) rfl)
  isplitl [H]; · iexact H
  iintro H
  iapply (first_at I K c (l := l') (g := 3) (s := s + 6) (s' := s + 8) (r := r + 8) (by simp; omega) rfl (by omega) hw hv (by rw [hl]))
  isplitl [H]; · iexact H
  iintro H
  iapply (seconds_at I K c (l := l') (s := s + 8) (s' := s') (r := r + 8) (r' := r') (by omega) (by omega) (by omega) (by omega))
  isplitl [H]; · iexact H
  iexact Hk

/-! ## The staging buffers -/

/-- A staging buffer's whole contents. -/
abbrev stgP (b : Ref sig .tc) (f : b.ty.Contents (Elt F)) : sProp 𝕄 := ((c : Thread nD τ).loc b) ↦{fullShare} f

/-- A group of rows of the input. -/
theorem input_at (g : Fin 4) (f : (cc0_stg0_0 : Ref sig .tc).ty.Contents (Elt F)) (hf : f = I.x c) {k : Pair F → KProg F} {Q : PUnit → sProp 𝕄} :
    iprop(stgP c cc0_stg0_0 f ∗ (stgP c cc0_stg0_0 f -∗ Wp c (k (X I 0 c g)) Q)) ⊢ Wp c (inputK g k) Q := by
  unfold inputK
  iintro ⟨H, Hk⟩
  iapply (wp_load_rect 𝒱₀ (c : Thread nD τ) none Set.univ (m := Memref.whole cc0_stg0_0) (r := rcX g) (Finset.subset_univ _)) $$ H; iintro H
  rw [show shapeCast S64x256 (((Memref.whole cc0_stg0_0 : Memref sig .tc .vmem S256x256 .f32).access (rcX g)).read (Elt F) f) shapeCasts_S64x256_S64x256 = X I 0 c g by
    subst hf; exact (shapeCast_self (s := S64x256) _ _).trans rfl]
  iapply Hk; iexact H

omit [FloatOps F] in
theorem hz : (![0, 0] : Fin 2 → Nat) = fun _ => 0 := funext fun a => by fin_cases a <;> rfl

/-- A layer's weights, read off two whole buffers. -/
theorem weights_at {mw : Memref sig .tc .vmem S256x512 .f32} {mv : Memref sig .tc .vmem S512x256 .f32}
    {fw : Buf (Elt F) (mw.view.loc (c : Thread nD τ))} {fv : Buf (Elt F) (mv.view.loc (c : Thread nD τ))} {a : WIn F} {b : WOut F}
    (ha : mw.view.readAt (Elt F) (Rect.unit (s := S256x512) ![0, 0] S256x512.size inb_S256x512_S256x512_0_0).toLoadRect fw = a)
    (hb : mv.view.readAt (Elt F) (Rect.unit (s := S512x256) ![0, 0] S512x256.size inb_S512x256_S512x256_0_0).toLoadRect fv = b)
    {k : WIn F → WOut F → KProg F} {Q : PUnit → sProp 𝕄} :
    iprop((mw.view.loc (c : Thread nD τ) ↦{fullShare} fw) ∗ (mv.view.loc (c : Thread nD τ) ↦{fullShare} fv)
        ∗ ((mw.view.loc (c : Thread nD τ) ↦{fullShare} fw) -∗ (mv.view.loc (c : Thread nD τ) ↦{fullShare} fv) -∗ Wp c (k a b) Q))
      ⊢ Wp c (weightsK mw mv k) Q := by
  unfold weightsK
  iintro ⟨Hw, Hv, Hk⟩
  iapply (wp_load 𝒱₀ (c : Thread nD τ) none Set.univ (m := mw) (Finset.subset_univ _)) $$ Hw; iintro Hw
  iapply (wp_load 𝒱₀ (c : Thread nD τ) none Set.univ (m := mv) (Finset.subset_univ _)) $$ Hv; iintro Hv
  have ea : ∀ h, shapeCast S256x512 (mw.view.readAt (Elt F) (Rect.unit (s := S256x512) ![0, 0] S256x512.size inb_S256x512_S256x512_0_0).toLoadRect fw) h = a :=
    fun h => (shapeCast_self (s := S256x512) _ _).trans ha
  have eb : ∀ h, shapeCast S512x256 (mv.view.readAt (Elt F) (Rect.unit (s := S512x256) ![0, 0] S512x256.size inb_S512x256_S512x256_0_0).toLoadRect fv) h = b :=
    fun h => (shapeCast_self (s := S512x256) _ _).trans hb
  rw [ea, eb]
  ihave Hk := Hk $$ Hw
  iapply Hk; iexact Hv

/-- The first layer. -/
theorem head_at {f : (cc0_stg0_0 : Ref sig .tc).ty.Contents (Elt F)} (hf : f = I.x c) {w : WIn F} {v : WOut F} (hw : w = I.w 0 c) (hv : v = I.v 0 c)
    {k : Blk F → Blk F → Blk F → Blk F → Blk F → Blk F → Blk F → Blk F → KProg F} {Q : PUnit → sProp 𝕄} :
    iprop(St (val I) K c 0 0 ∗ stgP c cc0_stg0_0 f ∗ (St (val I) K c 16 8 -∗ stgP c cc0_stg0_0 f
        -∗ Wp c (k (val I c (ib 0 0 false)) (val I c (ib 0 0 true)) (val I c (ib 0 1 false)) (val I c (ib 0 1 true))
          (val I c (ib 0 2 false)) (val I c (ib 0 2 true)) (val I c (ib 0 3 false)) (val I c (ib 0 3 true))) Q))
      ⊢ Wp c (headK c w v k) Q := by
  unfold headK
  iintro ⟨H, Hx, Hk⟩
  iapply (input_at I c 0 f hf)
  isplitl [Hx]; · iexact Hx
  iintro Hx
  iapply (first_at I K c (l := 0) (g := 0) (s := 0) (s' := 2) (r := 0) rfl rfl (by omega) hw hv rfl)
  isplitl [H]; · iexact H
  iintro H
  iapply (input_at I c 1 f hf)
  isplitl [Hx]; · iexact Hx
  iintro Hx
  iapply (first_at I K c (l := 0) (g := 1) (s := 2) (s' := 4) (r := 0) rfl rfl (by omega) hw hv rfl)
  isplitl [H]; · iexact H
  iintro H
  iapply (input_at I c 2 f hf)
  isplitl [Hx]; · iexact Hx
  iintro Hx
  iapply (first_at I K c (l := 0) (g := 2) (s := 4) (s' := 6) (r := 0) rfl rfl (by omega) hw hv rfl)
  isplitl [H]; · iexact H
  iintro H
  iapply (input_at I c 3 f hf)
  isplitl [Hx]; · iexact Hx
  iintro Hx
  iapply (first_at I K c (l := 0) (g := 3) (s := 6) (s' := 8) (r := 0) rfl rfl (by omega) hw hv rfl)
  isplitl [H]; · iexact H
  iintro H
  iapply (seconds_at I K c (l := 0) (s := 8) (s' := 16) (r := 0) (r' := 8) rfl rfl rfl rfl)
  isplitl [H]; · iexact H
  iintro H
  ihave Hk := Hk $$ H
  iapply Hk; iexact Hx

/-! ## The result -/

/-- The result buffer with one chunk's rows replaced. -/
def put (g : Fin 4) (b : Bool) (a : Blk F) (f : (cc0_stg7_0 : Ref sig .tc).ty.Contents (Elt F)) : (cc0_stg7_0 : Ref sig .tc).ty.Contents (Elt F) :=
  (oM.access (rcO g b)).write (Elt F) f a Finset.univ

/-- A chunk of the result. -/
theorem store_at {g : Fin 4} {b : Bool} {r r' : ℕ} (hr : r = 40 + 2 * g.val + b.toNat) (hr' : r' = r + 1) (f : (cc0_stg7_0 : Ref sig .tc).ty.Contents (Elt F)) {k : KProg F} {Q : PUnit → sProp 𝕄} :
    iprop(St (val I) K c 48 r ∗ stgP c cc0_stg7_0 f ∗ (St (val I) K c 48 r' -∗ stgP c cc0_stg7_0 (put g b (fulls (accs (P I 2)) c g b) f) -∗ Wp c k Q))
      ⊢ Wp c (storeK g b (val I c (ib 2 g b)) k) Q := by
  unfold storeK
  iintro ⟨H, Ho, Hk⟩
  iapply (recv_at I K c (s := 48) (r := r) (r' := r') (by subst hr; simp [ib]) hr' (by have := g.isLt; have : b.toNat ≤ 1 := Bool.toNat_le b; omega))
  isplitl [H]; · iexact H
  iintro H
  rw [plus_ib]
  iapply (wp_load 𝒱₀ (c : Thread nD τ) none Set.univ (m := oM) (Finset.subset_univ _)) $$ Ho; iintro Ho
  iapply (wp_store 𝒱₀ (c : Thread nD τ) none Set.univ (m := oM) (r := rcO g b) (Mk := Finset.univ) (Finset.subset_univ _)) $$ Ho; iintro Ho
  ihave Hk := Hk $$ H
  iapply Hk; unfold put; iexact Ho

/-- Replacing a chunk's rows, element by element. -/
theorem put_apply (g : Fin 4) (b : Bool) (a : Blk F) (f : (cc0_stg7_0 : Ref sig .tc).ty.Contents (Elt F)) (i : S256x256.Idx) :
    (put g b a f : FVec F S256x256 .f32) i
      = if (i 0).val / 64 = g.val ∧ ((i 0).val / 32 % 2 == 1) = b then a (ValueIdx.ix2 ⟨(i 0).val % 32, by omega⟩ ⟨(i 1).val, (i 1).isLt⟩) else (f : FVec F S256x256 .f32) i := by
  have hi0 : (i 0).val < 256 := (i 0).isLt
  have hg := g.isLt
  by_cases h : (i 0).val / 64 = g.val ∧ ((i 0).val / 32 % 2 == 1) = b
  · rw [if_pos h]
    obtain ⟨h1, h2⟩ := h
    have hrow : (i 0).val = 64 * g.val + 32 * b.toNat + (i 0).val % 32 := by
      cases b <;> simp at h2 ⊢ <;> omega
    have hi : i = (rcO g b).emb (ValueIdx.ix2 ⟨(i 0).val % 32, by omega⟩ ⟨(i 1).val, (i 1).isLt⟩) := by
      funext x
      match x with
      | ⟨0, _⟩ => exact Fin.ext (hrow.trans (by show _ = (64 * g.val + 32 * b.toNat) + 1 * ((i 0).val % 32); omega))
      | ⟨1, _⟩ => exact Fin.ext (by show (i 1).val = 0 + 1 * (i 1).val; omega)
    exact (congrArg (put g b a f : FVec F S256x256 .f32) hi).trans
      (View.write_emb_of_mem (v := oM.access (rcO g b)) (Val := Elt F) f a (Finset.mem_univ _))
  · rw [if_neg h]
    refine View.write_of_not_mem (v := oM.access (rcO g b)) (Val := Elt F) f a _ fun hm => h ?_
    obtain ⟨y, -, hy⟩ := Finset.mem_map.mp hm
    have hy0 : (i 0).val = 64 * g.val + 32 * b.toNat + (y 0).val := by
      rw [← hy]; show (64 * g.val + 32 * b.toNat) + 1 * (y 0).val = _; omega
    have hy1 : (y 0).val < 32 := (y 0).isLt
    cases b <;> simp at hy0 ⊢ <;> omega

/-- All eight chunks replaced make the result. -/
theorem puts_eq (f : (cc0_stg7_0 : Ref sig .tc).ty.Contents (Elt F)) (A : Fin 4 → Bool → Blk F) :
    (put 3 true (A 3 true) <| put 3 false (A 3 false) <| put 2 true (A 2 true) <| put 2 false (A 2 false) <|
      put 1 true (A 1 true) <| put 1 false (A 1 false) <| put 0 true (A 0 true) <| put 0 false (A 0 false) f : FVec F S256x256 .f32)
    = fun i => A ⟨(i 0).val / 64, by have : (i 0).val < 256 := (i 0).isLt; omega⟩ ((i 0).val / 32 % 2 == 1) (ValueIdx.ix2 ⟨(i 0).val % 32, by omega⟩ ⟨(i 1).val, (i 1).isLt⟩) := by
  funext i
  have hi : (i 0).val / 64 < 4 := by have : (i 0).val < 256 := (i 0).isLt; omega
  obtain ⟨g, hg⟩ : ∃ g : Fin 4, g = ⟨(i 0).val / 64, hi⟩ := ⟨_, rfl⟩
  obtain ⟨b, hb⟩ : ∃ b : Bool, b = ((i 0).val / 32 % 2 == 1) := ⟨_, rfl⟩
  have hg' : (i 0).val / 64 = g.val := by rw [hg]
  simp only [put_apply, ← hb, ← hg, hg']
  fin_cases g <;> cases b <;> simp

/-- The result, all eight chunks. -/
theorem tail_at (f : (cc0_stg7_0 : Ref sig .tc).ty.Contents (Elt F)) {k : KProg F} {Q : PUnit → sProp 𝕄} :
    iprop(St (val I) K c 48 40 ∗ stgP c cc0_stg7_0 f ∗ (St (val I) K c 48 48 -∗ stgP c cc0_stg7_0 (outAt I c) -∗ Wp c k Q))
      ⊢ Wp c (tailK (val I c (ib 2 0 false)) (val I c (ib 2 0 true)) (val I c (ib 2 1 false)) (val I c (ib 2 1 true))
          (val I c (ib 2 2 false)) (val I c (ib 2 2 true)) (val I c (ib 2 3 false)) (val I c (ib 2 3 true)) k) Q := by
  unfold tailK
  have e := puts_eq f (fulls (accs (P I 2)) c)
  iintro ⟨H, Ho, Hk⟩
  iapply (store_at I K c (g := 0) (b := false) (r := 40) (r' := 41) rfl rfl _)
  isplitl [H]; · iexact H
  isplitl [Ho]; · iexact Ho
  iintro H Ho
  iapply (store_at I K c (g := 0) (b := true) (r := 41) (r' := 42) rfl rfl _)
  isplitl [H]; · iexact H
  isplitl [Ho]; · iexact Ho
  iintro H Ho
  iapply (store_at I K c (g := 1) (b := false) (r := 42) (r' := 43) rfl rfl _)
  isplitl [H]; · iexact H
  isplitl [Ho]; · iexact Ho
  iintro H Ho
  iapply (store_at I K c (g := 1) (b := true) (r := 43) (r' := 44) rfl rfl _)
  isplitl [H]; · iexact H
  isplitl [Ho]; · iexact Ho
  iintro H Ho
  iapply (store_at I K c (g := 2) (b := false) (r := 44) (r' := 45) rfl rfl _)
  isplitl [H]; · iexact H
  isplitl [Ho]; · iexact Ho
  iintro H Ho
  iapply (store_at I K c (g := 2) (b := true) (r := 45) (r' := 46) rfl rfl _)
  isplitl [H]; · iexact H
  isplitl [Ho]; · iexact Ho
  iintro H Ho
  iapply (store_at I K c (g := 3) (b := false) (r := 46) (r' := 47) rfl rfl _)
  isplitl [H]; · iexact H
  isplitl [Ho]; · iexact Ho
  iintro H Ho
  iapply (store_at I K c (g := 3) (b := true) (r := 47) (r' := 48) rfl rfl _)
  isplitl [H]; · iexact H
  isplitl [Ho]; · iexact Ho
  iintro H Ho
  ihave Hk := Hk $$ H
  iapply Hk
  ihave Ho := (Entails.of_eq (congrArg (fun g => stgP c cc0_stg7_0 g) e)) $$ Ho
  iexact Ho

/-! ## The layers -/

/-- The staging buffers of device `c`: the input, the six weights, and the result with contents `f`. -/
def stgs (f : (cc0_stg7_0 : Ref sig .tc).ty.Contents (Elt F)) : sProp 𝕄 :=
  iprop(stgP c cc0_stg0_0 (I.x c) ∗ stgP c cc0_stg1_0 (I.w 0 c) ∗ stgP c cc0_stg2_0 (I.v 0 c) ∗ stgP c cc0_stg3_0 (I.w 1 c) ∗ stgP c cc0_stg4_0 (I.v 1 c)
    ∗ stgP c cc0_stg5_0 (I.w 2 c) ∗ stgP c cc0_stg6_0 (I.v 2 c) ∗ stgP c cc0_stg7_0 f)

theorem ret_at {Q : PUnit → sProp 𝕄} : (|={Set.univ}=> Q ⟨⟩ : sProp 𝕄) ⊢ Wp c (.ret ⟨⟩) Q := by unfold Wp; rw [wp_ret]

/-- What follows the handshake. -/
theorem layers_at (f : (cc0_stg7_0 : Ref sig .tc).ty.Contents (Elt F)) {Q : PUnit → sProp 𝕄} :
    iprop(St (val I) K c 0 0 ∗ stgs I c f ∗ (St (val I) K c 48 48 -∗ stgs I c (outAt I c) -∗ |={Set.univ}=> Q ⟨⟩)) ⊢ Wp c (layersK c) Q := by
  unfold layersK stgs
  iintro ⟨H, ⟨H0, H1, H2, H3, H4, H5, H6, H7⟩, Hk⟩
  iapply (weights_at c (mw := Memref.whole cc0_stg1_0) (mv := Memref.whole cc0_stg2_0) (fw := I.w 0 c) (fv := I.v 0 c)
    (Memref.readAt_unit_zero (Elt F) cc0_stg1_0 hz _ _) (Memref.readAt_unit_zero (Elt F) cc0_stg2_0 hz _ _))
  isplitl [H1]; · iexact H1
  isplitl [H2]; · iexact H2
  iintro H1 H2
  iapply (head_at I K c (f := I.x c) rfl rfl rfl)
  isplitl [H]; · iexact H
  isplitl [H0]; · iexact H0
  iintro H H0
  iapply (weights_at c (mw := Memref.whole cc0_stg3_0) (mv := Memref.whole cc0_stg4_0) (fw := I.w 1 c) (fv := I.v 1 c)
    (Memref.readAt_unit_zero (Elt F) cc0_stg3_0 hz _ _) (Memref.readAt_unit_zero (Elt F) cc0_stg4_0 hz _ _))
  isplitl [H3]; · iexact H3
  isplitl [H4]; · iexact H4
  iintro H3 H4
  iapply (next_at I K c (l := 0) (l' := 1) rfl (s := 16) (s' := 32) (r := 8) (r' := 24) rfl rfl rfl rfl rfl rfl)
  isplitl [H]; · iexact H
  iintro H
  iapply (weights_at c (mw := Memref.whole cc0_stg5_0) (mv := Memref.whole cc0_stg6_0) (fw := I.w 2 c) (fv := I.v 2 c)
    (Memref.readAt_unit_zero (Elt F) cc0_stg5_0 hz _ _) (Memref.readAt_unit_zero (Elt F) cc0_stg6_0 hz _ _))
  isplitl [H5]; · iexact H5
  isplitl [H6]; · iexact H6
  iintro H5 H6
  iapply (next_at I K c (l := 1) (l' := 2) rfl (s := 32) (s' := 48) (r := 24) (r' := 40) rfl rfl rfl rfl rfl rfl)
  isplitl [H]; · iexact H
  iintro H
  iapply (tail_at I K c f)
  isplitl [H]; · iexact H
  isplitl [H7]; · iexact H7
  iintro H H7
  iapply (ret_at c)
  ihave Hk := Hk $$ H
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Exch

end
-- ==== Proof.KernelIdeal.Handshake.lean ====
/-
# The whole body

The handshake before the layers: each device hands its receive slots to the partners that fill them and gets the
partners' slots it fills. `body_at` runs the body from what a device holds at launch to what it holds at the end.
-/
module

public import proofs.«01_k».proof.Proof.KernelIdeal.Body
public import Idealize.ShloMosaic.Lib.Ring

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- All slots, by direction. -/
theorem by_kind (Φ : Fin 48 → sProp 𝕄) :
    bigSep Finset.univ Φ = iprop(bigSep (Finset.univ.filter fun n : Fin 48 => kind n = false) Φ ∗ bigSep (Finset.univ.filter fun n : Fin 48 => kind n = true) Φ) := by
  rw [BI.bigSep_filter_split Finset.univ (fun n : Fin 48 => kind n = false)]
  rw [show (Finset.univ.filter fun n : Fin 48 => ¬kind n = false) = Finset.univ.filter fun n : Fin 48 => kind n = true from
    Finset.filter_congr fun n _ => by simp]
  rfl

/-- What device `c` hands its partners; -/
theorem give (c : Dev nD) : bigSep Finset.univ (fun n => rAny (F := F) c n) ⊢ iprop(barPay (mate false c) false ∗ barPay (mate true c) true) := by
  unfold barPay
  rw [mate_mate, mate_mate, by_kind]

/-- what it gets from them. -/
theorem take (c : Dev nD) : iprop(barPay (F := F) c false ∗ barPay c true) ⊢ bigSep Finset.univ (fun n => rAny (F := F) (peer c n) n) := by
  unfold barPay
  rw [by_kind, BI.bigSep_congr (s := Finset.univ.filter fun n : Fin 48 => kind n = false) (Φ := fun n => rAny (F := F) (peer c n) n) (Ψ := fun n => rAny (F := F) (mate false c) n)
      fun n hn => by rw [peer, (Finset.mem_filter.mp hn).2],
    BI.bigSep_congr (s := Finset.univ.filter fun n : Fin 48 => kind n = true) (Φ := fun n => rAny (F := F) (peer c n) n) (Ψ := fun n => rAny (F := F) (mate true c) n)
      fun n hn => by rw [peer, (Finset.mem_filter.mp hn).2]]

variable (I : Inp F) (K : Dev nD × CI → ℕ) (c : Dev nD)

/-- What a device holds of one slot before the handshake, its two buffers apart. -/
def lot (c : Dev nD) (n : Fin 48) : sProp 𝕄 :=
  iprop((dutyTok ER (sendCell c n) 0 false ∗ dutyTok ER (recvCell (peer c n) n) 0 false)
    ∗ (atPos ER (sendCell c n) 0 ∅ 0 ∗ atPos ER (recvCell c n) 0 ∅ 0) ∗ cred (tallyAt (recvCell c n) () N))

theorem todo_one (c : Dev nD) (n : Fin 48) : iprop(lot (F := F) c n ∗ sAny c n ∗ rAny (peer c n) n) ⊢ stage (F := F) c 0 0 n := by
  rw [show stage (F := F) c 0 0 n = todo c n by unfold stage; rw [if_neg (Nat.not_lt_zero _), if_neg (Nat.not_lt_zero _)]]
  unfold lot todo
  iintro ⟨⟨⟨H1, H2⟩, ⟨H3, H4⟩, H5⟩, H6, H7⟩
  isplitl [H6]; · iexact H6
  isplitl [H7]; · iexact H7
  isplitl [H1]; · iexact H1
  isplitl [H2]; · iexact H2
  isplitl [H3]; · iexact H3
  isplitl [H4]; · iexact H4
  iexact H5

/-- A slot's lot and both ends' buffers are what its transfer starts from. -/
theorem todo_intro (c : Dev nD) :
    iprop(bigSep Finset.univ (fun n => lot (F := F) c n) ∗ bigSep Finset.univ (fun n => sAny (F := F) c n) ∗ bigSep Finset.univ (fun n => rAny (F := F) (peer c n) n))
      ⊢ bigSep Finset.univ (fun n => stage (F := F) c 0 0 n) := by
  rw [← bigSep_sep', ← bigSep_sep']
  exact bigSep_mono fun n _ => todo_one c n

theorem done_one (c : Dev nD) (n : Fin 48) : stage (F := F) c 48 48 n
    ⊢ iprop(sAny (F := F) c n ∗ rAny (F := F) c n ∗ semVal (sendCell c n) 0 ∗ semVal (recvCell c n) 0) := by
  rw [show stage (F := F) c 48 48 n = done c n by unfold stage; rw [if_pos n.isLt]]
  unfold done
  exact BI.Entails.refl _

/-- The end of all slots. -/
theorem done_elim (c : Dev nD) : bigSep Finset.univ (fun n => stage (F := F) c 48 48 n)
    ⊢ iprop(bigSep Finset.univ (fun n => sAny (F := F) c n) ∗ bigSep Finset.univ (fun n => rAny (F := F) c n)
        ∗ bigSep Finset.univ (fun n : Fin 48 => iprop(semVal (sendCell c n) 0 ∗ semVal (recvCell c n) 0 : sProp 𝕄))) := by
  rw [← bigSep_sep', ← bigSep_sep']
  exact bigSep_mono fun n _ => done_one c n

/-- The body: from the cells' records, the levels, what the device owes, its barrier position, credit and the two
    duties it pays, its lots and buffers, to all buffers back, the result computed, every counter at zero and nothing owed. -/
theorem body_at (f : (cc0_stg7_0 : Ref sig .tc).ty.Contents (Elt F)) (W : Waits sig Unit) {Q : PUnit → sProp 𝕄} :
    iprop((recs (val I) K ∗ levAts L lv ∗ owes (c : Thread nD τ) (O₀ c) W)
        ∗ (atPos ER (barCell c) 0 ∅ 0 ∗ cred (tallyAt (barCell c) () 2)
          ∗ dutyTok ER (barCell (mate false c)) 0 false ∗ dutyTok ER (barCell (mate true c)) 0 true)
        ∗ (bigSep Finset.univ (fun n => lot (F := F) c n) ∗ bigSep Finset.univ (fun n => sAny (F := F) c n) ∗ bigSep Finset.univ (fun n => rAny (F := F) c n))
        ∗ stgs I c f
        ∗ (((bigSep Finset.univ (fun n => sAny (F := F) c n) ∗ bigSep Finset.univ (fun n => rAny (F := F) c n)
              ∗ bigSep Finset.univ (fun n : Fin 48 => iprop(semVal (sendCell c n) 0 ∗ semVal (recvCell c n) 0 : sProp 𝕄)))
            ∗ semVal (barCell c) 0 ∗ (∃ W, owes (c : Thread nD τ) 0 W) ∗ stgs I c (outAt I c)) -∗ |={Set.univ}=> Q ⟨⟩))
      ⊢ Wp c bodyK Q := by
  unfold bodyK Wp
  simp only [wp_deviceId, dev1_eq c, dev2_eq c]
  iintro ⟨⟨#HR, #HL, HO⟩, ⟨HatB, HcB, HtF, HtT⟩, ⟨Hlot, Hs, Hr⟩, Hstg, Hk⟩
  ihave ⟨Hgf, Hgt⟩ := (give (F := F) c) $$ Hr
  ihave ⟨#HIb, -⟩ := (inv_at (val I) K (c, none)) $$ HR
  ihave ⟨#HIf, #Hrf⟩ := (inv_at (val I) K (mate false c, none)) $$ HR
  ihave ⟨#HIt, #Hrt⟩ := (inv_at (val I) K (mate true c, none)) $$ HR
  iapply (Rounds.wp_signal 𝒱₀ ER (Rd (val I)) (c : Thread nD τ) none (dst := (mate false c : Thread nD τ)) (κ := K (mate false c, none))
      (d := false) (by rw [duties_bar]; exact Finset.mem_univ _) ((amount_bar (val I) (mate false c) false).trans (by decide)) () (O₁ c) rfl)
    $$ [HO HtF Hgf]
  · isplitr; · iexact HIf
    isplitl [HO]; · iexact HO
    isplitl [HtF]; · iexact HtF
    isplitl [Hgf]; · rw [payload_bar]; iexact Hgf
    iexact Hrf
  iintro HO
  iapply (Rounds.wp_signal 𝒱₀ ER (Rd (val I)) (c : Thread nD τ) none (dst := (mate true c : Thread nD τ)) (κ := K (mate true c, none))
      (d := true) (by rw [duties_bar]; exact Finset.mem_univ _) ((amount_bar (val I) (mate true c) true).trans (by decide)) () (O c 0) rfl)
    $$ [HO HtT Hgt]
  · isplitr; · iexact HIt
    isplitl [HO]; · iexact HO
    isplitl [HtT]; · iexact HtT
    isplitl [Hgt]; · rw [payload_bar]; iexact Hgt
    iexact Hrt
  iintro HO
  iapply (Rounds.wp_wait_rest_token 𝒱₀ ER (Rd (val I)) (c : Thread nD τ) none (κ := K (c, none))
      (wpE_semWait_eq 𝒱₀ (c : Thread nD τ) none Set.univ) (Set.mem_univ _) () (O := O c 0) (W := W) (R := 0) (m := 0) (T := ∅)
      (by rw [expect_bar]; decide)) $$ [HcB HO HatB]
  · isplitr; · iexact HIb
    isplitl [HcB]; · iexact HcB
    isplitl [HO]; · iexact HO
    isplitr; · iapply (mayWait_lt c (.reg barS) 0 (by decide)); iexact HL
    iexact HatB
  iintro ⟨HO, HatB, -, Hpay⟩
  ihave Hp := (Entails.of_eq (rest_bar (val I) c)) $$ Hpay
  ihave Hp := (take (F := F) c) $$ Hp
  imod (Rounds.cell_close ER (Rd (val I)) (Set.mem_univ (K (c, none))) (fun h => h) (R := 0 + 1) (duties_later (val I) (barCell c))) $$ [HatB] with HzB
  · isplitr; · iexact HIb
    iexact HatB
  ihave Hst := (todo_intro (F := F) c) $$ [Hlot Hs Hp]
  · isplitl [Hlot]; · iexact Hlot
    isplitl [Hs] <;> iassumption
  iapply (layers_at I K c f)
  isplitl [HO Hst]
  · unfold St
    isplitr; · iexact HR
    isplitr; · iexact HL
    isplitl [HO]; · iexists _; iexact HO
    iexact Hst
  isplitl [Hstg]; · iexact Hstg
  unfold St
  iintro ⟨-, -, ⟨%W', HO⟩, Hst⟩ Hstg
  iapply Hk
  ihave Hd := (done_elim (F := F) c) $$ Hst
  isplitl [Hd]; · iexact Hd
  isplitl [HzB]; · iexact HzB
  isplitl [HO]
  · iexists W'
    ihave HO := (Entails.of_eq (congrArg (fun o => (owes (c : Thread nD τ) o W' : sProp 𝕄)) (O_end c))) $$ HO
    iexact HO
  iexact Hstg

/-! ## The two buffers and their slots -/

theorem slots_disjoint (n n' : Fin 48) (h : n ≠ n') : Disjoint (rc n).set (rc n').set := by
  have key : ∀ a : Fin 3, off3 n a ≠ off3 n' a → Disjoint (rc n).set (rc n').set := by
    intro a ha
    match a with
    | 0 => exact Rect.unit_disjoint (0 : Fin 5) (by have : n.val / 16 ≠ n'.val / 16 := ha; show n.val / 16 + 1 ≤ n'.val / 16 ∨ n'.val / 16 + 1 ≤ n.val / 16; omega)
    | 1 => exact Rect.unit_disjoint (1 : Fin 5) (by have : n.val % 8 ≠ n'.val % 8 := ha; show n.val % 8 + 1 ≤ n'.val % 8 ∨ n'.val % 8 + 1 ≤ n.val % 8; omega)
    | 2 => exact Rect.unit_disjoint (2 : Fin 5) (by have : n.val / 8 % 2 ≠ n'.val / 8 % 2 := ha; show n.val / 8 % 2 + 1 ≤ n'.val / 8 % 2 ∨ n'.val / 8 % 2 + 1 ≤ n.val / 8 % 2; omega)
  by_contra hd
  apply h
  have e0 : n.val / 16 = n'.val / 16 := by by_contra hc; exact hd (key 0 hc)
  have e1 : n.val % 8 = n'.val % 8 := by by_contra hc; exact hd (key 1 hc)
  have e2 : n.val / 8 % 2 = n'.val / 8 % 2 := by by_contra hc; exact hd (key 2 hc)
  exact Fin.ext (by omega)

theorem slots_cover : Finset.univ.biUnion (fun n : Fin 48 => (rc n).set) = Finset.univ := by
  refine Finset.eq_univ_iff_forall.mpr fun i => ?_
  have h0 : (i 0).val < 3 := (i 0).isLt
  have h1 : (i 1).val < 8 := (i 1).isLt
  have h2 : (i 2).val < 2 := (i 2).isLt
  have h3 : (i 3).val < 32 := (i 3).isLt
  have h4 : (i 4).val < 256 := (i 4).isLt
  refine Finset.mem_biUnion.mpr ⟨⟨16 * (i 0).val + 8 * (i 2).val + (i 1).val, by omega⟩, Finset.mem_univ _, Rect.mem_set_unit.mpr fun a => ?_⟩
  match a with
  | 0 => show (16 * (i 0).val + 8 * (i 2).val + (i 1).val) / 16 ≤ (i 0).val ∧ (i 0).val < (16 * (i 0).val + 8 * (i 2).val + (i 1).val) / 16 + 1; omega
  | 1 => show (16 * (i 0).val + 8 * (i 2).val + (i 1).val) % 8 ≤ (i 1).val ∧ (i 1).val < (16 * (i 0).val + 8 * (i 2).val + (i 1).val) % 8 + 1; omega
  | 2 => show (16 * (i 0).val + 8 * (i 2).val + (i 1).val) / 8 % 2 ≤ (i 2).val ∧ (i 2).val < (16 * (i 0).val + 8 * (i 2).val + (i 1).val) / 8 % 2 + 1; omega
  | 3 => show 0 ≤ (i 3).val ∧ (i 3).val < 0 + 32; omega
  | 4 => show 0 ≤ (i 4).val ∧ (i 4).val < 0 + 256; omega

theorem sl_set_s (n : Fin 48) : (sl sM n).view.set = (rc n).set := (sl_set sM n).trans (View.set_slice_whole _ _)
theorem sl_set_r (n : Fin 48) : (sl rM n).view.set = (rc n).set := (sl_set rM n).trans (View.set_slice_whole _ _)

theorem one_s (n : Fin 48) (f : Buf (Elt F) ((c : Thread nD τ).loc cc0_scratch0)) : (((c : Thread nD τ).loc cc0_scratch0) ↦[(rc n).set]{fullShare} f : sProp 𝕄) ⊢ sAny c n := by
  unfold sAny sPts
  rw [sl_set_s]
  iintro H
  iexists f; iexact H

/-- The send buffer is its slots, -/
theorem split_s (f : Buf (Elt F) ((c : Thread nD τ).loc cc0_scratch0)) : (((c : Thread nD τ).loc cc0_scratch0) ↦{fullShare} f : sProp 𝕄) ⊢ bigSep Finset.univ fun n => sAny (F := F) c n := by
  rw [Ring.pointsTo_blocks (ℓ := (c : Thread nD τ).loc cc0_scratch0) (fun n : Fin 48 => (rc n).set) slots_disjoint slots_cover f]
  exact bigSep_mono fun n _ => one_s c n f

theorem join_s : bigSep Finset.univ (fun n => sAny (F := F) c n) ⊢ (iprop(∃ f, ((c : Thread nD τ).loc cc0_scratch0) ↦{fullShare} f) : sProp 𝕄) := by
  refine BI.Entails.trans (Entails.of_eq (BI.bigSep_congr fun n _ => ?_))
    (Ring.pointsTo_blocks_join_exists (ℓ := (c : Thread nD τ).loc cc0_scratch0) (fun n : Fin 48 => (rc n).set) slots_disjoint slots_cover (fun _ => (Scalar.ofBits .f32 0x00000000#32 : F .f32)))
  unfold sAny sPts
  rw [sl_set_s]

theorem one_r (n : Fin 48) (f : Buf (Elt F) ((c : Thread nD τ).loc cc0_scratch1)) : (((c : Thread nD τ).loc cc0_scratch1) ↦[(rc n).set]{fullShare} f : sProp 𝕄) ⊢ rAny c n := by
  unfold rAny rPts
  rw [sl_set_r]
  iintro H
  iexists f; iexact H

/-- and the receive buffer its. -/
theorem split_r (f : Buf (Elt F) ((c : Thread nD τ).loc cc0_scratch1)) : (((c : Thread nD τ).loc cc0_scratch1) ↦{fullShare} f : sProp 𝕄) ⊢ bigSep Finset.univ fun n => rAny (F := F) c n := by
  rw [Ring.pointsTo_blocks (ℓ := (c : Thread nD τ).loc cc0_scratch1) (fun n : Fin 48 => (rc n).set) slots_disjoint slots_cover f]
  exact bigSep_mono fun n _ => one_r c n f

theorem join_r : bigSep Finset.univ (fun n => rAny (F := F) c n) ⊢ (iprop(∃ f, ((c : Thread nD τ).loc cc0_scratch1) ↦{fullShare} f) : sProp 𝕄) := by
  refine BI.Entails.trans (Entails.of_eq (BI.bigSep_congr fun n _ => ?_))
    (Ring.pointsTo_blocks_join_exists (ℓ := (c : Thread nD τ).loc cc0_scratch1) (fun n : Fin 48 => (rc n).set) slots_disjoint slots_cover (fun _ => (Scalar.ofBits .f32 0x00000000#32 : F .f32)))
  unfold rAny rPts
  rw [sl_set_r]

end Cert.KernelIdeal.Exch

end
-- ==== Proof.KernelIdeal.Start.lean ====
/-
# The launch of the exchanges

From the launched counters and the launched ghost state to what each device starts with: the records of all cells,
its positions, the tokens of the duties it pays, and the credits of what its partners owe it.
-/
module

public import proofs.«01_k».proof.Proof.KernelIdeal.Handshake

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A device's cells: the barrier's, its send cells, its receive cells. -/
theorem by_cell (Φ : CI → sProp 𝕄) :
    bigSep Finset.univ Φ = iprop(Φ none ∗ bigSep Finset.univ (fun n : Fin 48 => Φ (some (false, n))) ∗ bigSep Finset.univ (fun n : Fin 48 => Φ (some (true, n)))) := by
  have h : bigSep (Finset.univ.erase none) Φ = bigSep Finset.univ fun k : Bool × Fin 48 => Φ (some k) := by
    rw [show (Finset.univ.erase none : Finset CI) = Finset.univ.map Function.Embedding.some by
      ext x; cases x <;> simp]
    rw [bigSep_map]; rfl
  rw [bigSep_univ_at Φ none, h, BI.bigSep_univ_prod, bigSep_univ_eq_bigSepL [false, true] (by decide) (by decide), bigSepL_cons_cons, bigSepL_singleton]
  rfl

theorem csem_injective : Function.Injective csem := by
  rintro (_ | ⟨_ | _, n⟩) (_ | ⟨_ | _, n'⟩) h
  · rfl
  · exact nomatch (show SemLoc.reg barS = SemLoc.dma (sendS n') from h)
  · exact nomatch (show SemLoc.reg barS = SemLoc.dma (recvS n') from h)
  · exact nomatch (show SemLoc.dma (sendS n) = SemLoc.reg barS from h)
  · have := congrArg slotOf (SemLoc.dma.inj h); rw [slotOf_send, slotOf_send] at this; exact this
  · have := congrArg slotOf (SemLoc.dma.inj h); rw [slotOf_send, slotOf_recv] at this; exact this
  · exact nomatch (show SemLoc.dma (recvS n) = SemLoc.reg barS from h)
  · have := congrArg slotOf (SemLoc.dma.inj h); rw [slotOf_recv, slotOf_send] at this; exact this
  · have := congrArg slotOf (SemLoc.dma.inj h); rw [slotOf_recv, slotOf_recv] at this; exact this

theorem kcell_injective : Function.Injective kcell := by
  rintro ⟨c, k⟩ ⟨c', k'⟩ h
  have h1 : c = c' := by have := congrArg (fun g : GSem nD τ sig => g.1.1) h; exact this
  subst h1
  have h2 : k = k' := csem_injective (congrArg Prod.snd h)
  rw [h2]

/-- All cells of all devices; -/
def allCells : Finset (GSem nD τ sig) := Finset.univ.map ⟨kcell, kcell_injective⟩

/-- A duty of a device's cells: one of the barrier's two, or a slot cell's one. -/
abbrev TI : Type := Bool ⊕ (Bool × Fin 48)
abbrev tokOf : Dev nD × TI → GSem nD τ sig × ℕ × Bool
  | (c, .inl b) => (kcell (c, none), 0, b)
  | (c, .inr k) => (kcell (c, some k), 0, false)

theorem tokOf_injective : Function.Injective tokOf := by
  rintro ⟨c, b | k⟩ ⟨c', b' | k'⟩ h
  · have h1 := kcell_injective (congrArg Prod.fst h)
    have h2 : b = b' := congrArg (fun x : GSem nD τ sig × ℕ × Bool => x.2.2) h
    rw [(Prod.mk.inj h1).1, h2]
  · have h1 := kcell_injective (congrArg Prod.fst h)
    exact Option.noConfusion rfl (heq_of_eq (Prod.mk.inj h1).2)
  · have h1 := kcell_injective (congrArg Prod.fst h)
    exact Option.noConfusion rfl (heq_of_eq (Prod.mk.inj h1).2)
  · have h1 := kcell_injective (congrArg Prod.fst h)
    rw [(Prod.mk.inj h1).1, Option.some.inj (Prod.mk.inj h1).2]

/-- and all their duties. -/
def allToks : Finset (GSem nD τ sig × ℕ × Bool) := Finset.univ.map ⟨tokOf, tokOf_injective⟩

section

variable (vl : Dev nD → Fin 48 → Blk F)

/-- The duty tokens of device `c`'s own cells. -/
def toks (c : Dev nD) : sProp 𝕄 :=
  iprop((dutyTok ER (barCell c) 0 false ∗ dutyTok ER (barCell c) 0 true)
    ∗ bigSep Finset.univ (fun n => dutyTok ER (sendCell c n) 0 false) ∗ bigSep Finset.univ (fun n => dutyTok ER (recvCell c n) 0 false))

/-- The tokens of the duties device `c` pays. -/
def payToks (c : Dev nD) : sProp 𝕄 :=
  iprop((dutyTok ER (barCell (mate false c)) 0 false ∗ dutyTok ER (barCell (mate true c)) 0 true)
    ∗ bigSep Finset.univ (fun n => dutyTok ER (sendCell c n) 0 false) ∗ bigSep Finset.univ (fun n => dutyTok ER (recvCell (peer c n) n) 0 false))

/-- What the launched ghost state deals device `c`. -/
def G (c : Dev nD) : sProp 𝕄 :=
  iprop((bigSep Finset.univ fun k : CI => roundState ER (Rd vl) (kcell (c, k)) 0)
    ∗ (bigSep Finset.univ fun k : CI => iprop(atPos ER (kcell (c, k)) 0 ∅ 0 ∗ reached ER (kcell (c, k)) 0)) ∗ toks c)

/-- What is device `c`'s alone: its positions and the tokens of what it pays. -/
def linear (c : Dev nD) : sProp 𝕄 := iprop((bigSep Finset.univ fun k : CI => atPos ER (kcell (c, k)) 0 ∅ 0) ∗ payToks c)

/-- What device `c` has once all cells are recorded. -/
def G' (c : Dev nD) : sProp 𝕄 := iprop(∃ K, recs vl K ∗ linear c)

theorem toks_eq (c : Dev nD) : bigSep Finset.univ (fun j : TI => (dutyTok ER (tokOf (c, j)).1 (tokOf (c, j)).2.1 (tokOf (c, j)).2.2 : sProp 𝕄)) = toks c := by
  unfold toks
  rw [BI.bigSep_univ_sum, BI.bigSep_univ_prod, bigSep_univ_eq_bigSepL [false, true] (by decide) (by decide), bigSepL_cons_cons, bigSepL_singleton,
    bigSep_univ_eq_bigSepL [false, true] (by decide) (by decide), bigSepL_cons_cons, bigSepL_singleton]
  rfl

/-- The launched ghost state dealt to the devices. -/
theorem deal : BI.own (ER (initOf allCells allToks)) ⊢ (|==> bigSep Finset.univ (G vl) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, BI.bigSep_univ_prod]; rfl
  have hT : bigSep allToks (fun x => (dutyTok ER x.1 x.2.1 x.2.2 : sProp 𝕄)) = bigSep Finset.univ fun c : Dev nD => toks c := by
    unfold allToks; rw [bigSep_map, BI.bigSep_univ_prod]
    exact BI.bigSep_congr fun c _ => toks_eq c
  iintro HX
  imod (Rounds.fund ER (Rd vl) allCells allToks) $$ HX with ⟨Hst, Hr, Hat, Htok⟩
  imodintro
  ihave Hst' := (Entails.of_eq (hX fun g => roundState ER (Rd vl) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

end

/-! ## The counters -/

/-- The kernel's own semaphores: every slot's two. -/
abbrev osem : Bool × Fin 48 → SemLoc sig := fun k => csem (some k)

theorem ownSems0_eq (c : Dev nD) : (Pipeline.ownSems0 (Ix := Unit) (Name := ℕ) (U := UU) (Lvl := ℕ) (Val := Elt F) (τ := τ) osem c : sProp 𝕄)
    = iprop(bigSep Finset.univ (fun n : Fin 48 => semVal (sendCell c n) 0) ∗ bigSep Finset.univ (fun n : Fin 48 => semVal (recvCell c n) 0)) := by
  unfold Pipeline.ownSems0
  rw [BI.bigSep_univ_prod, bigSep_univ_eq_bigSepL [false, true] (by decide) (by decide), bigSepL_cons_cons, bigSepL_singleton]
  rfl

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, by_cell]
  iintro ⟨⟨HS, HV⟩, HB⟩
  isplitl [HB]; · iexact HB
  isplitl [HS] <;> iassumption

section

variable (vl : Dev nD → Fin 48 → Blk F)

/-- One device's counters and round states become its cells' invariants. -/
theorem core_alloc (c : Dev nD) :
    iprop(Pipeline.ownSems0 (Ix := Unit) (Name := ℕ) (U := UU) (Lvl := ℕ) (Val := Elt F) (τ := τ) osem c ∗ unscopedSems0 c ∗ G vl c)
      ⊢ |={Set.univ}=> iprop((bigSep Finset.univ fun k : CI => iprop(∃ κ : ℕ, cellInv ER (Rd vl) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd vl) (kcell (c, k)) 0)
      ⊢ (|={Set.univ}=> bigSep Finset.univ fun k : CI => iprop(∃ κ : ℕ, cellInv ER (Rd vl) κ (kcell (c, k))) : sProp 𝕄) from by
        rw [← bigSep_sep']
        exact (bigSep_mono fun k _ => (Rounds.body_intro ER (Rd vl) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A direction's partner map as a permutation of the devices. -/
def mateE (b : Bool) : Dev nD ≃ Dev nD := ⟨mate b, mate b, mate_mate b, mate_mate b⟩

/-- Every duty's token given to the device that pays it. -/
theorem toks_around : (bigSep Finset.univ fun c : Dev nD => (toks c : sProp 𝕄)) ⊢ bigSep Finset.univ fun c : Dev nD => payToks c := by
  have hr : (bigSep Finset.univ fun c : Dev nD => bigSep Finset.univ fun n : Fin 48 => (dutyTok ER (recvCell c n) 0 false : sProp 𝕄))
      = bigSep Finset.univ fun c : Dev nD => bigSep Finset.univ fun n : Fin 48 => (dutyTok ER (recvCell (peer c n) n) 0 false : sProp 𝕄) := by
    rw [BI.bigSep_univ_comm, BI.bigSep_univ_comm (fun (c : Dev nD) (n : Fin 48) => (dutyTok ER (recvCell (peer c n) n) 0 false : sProp 𝕄))]
    exact BI.bigSep_congr fun n _ => BI.bigSep_univ_equiv (mateE (kind n)) (fun c : Dev nD => (dutyTok ER (recvCell c n) 0 false : sProp 𝕄))
  unfold toks payToks
  rw [bigSep_sep', bigSep_sep', bigSep_sep', bigSep_sep', bigSep_sep', bigSep_sep', hr,
    BI.bigSep_univ_equiv (mateE false) (fun c : Dev nD => (dutyTok ER (barCell c) 0 false : sProp 𝕄)),
    BI.bigSep_univ_equiv (mateE true) (fun c : Dev nD => (dutyTok ER (barCell c) 0 true : sProp 𝕄))]
  exact BI.Entails.refl _

theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem G'_intro (K : Dev nD × CI → ℕ) (c : Dev nD) : iprop(recs vl K ∗ linear c) ⊢ G' vl c := by
  unfold G'
  iintro H
  iexists K; iexact H

/-- All devices' invariants together are the records every device keeps. -/
theorem regroup :
    (bigSep Finset.univ fun c : Dev nD => iprop((bigSep Finset.univ fun k : CI => iprop(∃ κ : ℕ, cellInv ER (Rd vl) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' vl) := by
  rw [bigSep_sep', bigSep_sep', ← BI.bigSep_univ_prod (fun ck : Dev nD × CI => iprop(∃ κ : ℕ, cellInv ER (Rd vl) κ (kcell ck))),
    BI.bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← BI.bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd vl) κ (kcell ck) : sProp 𝕄))) $$ HI
  icases HK with ⟨%K, #HI⟩
  ihave Htk := (toks_around (F := F)) $$ Htok
  iapply (with_records (R := recs vl K) fun c => G'_intro vl K c)
  isplitr
  · unfold recs
    iapply (Entails.of_eq (bigSep_sep' Finset.univ (fun ck : Dev nD × CI => (cellInv ER (Rd vl) (K ck) (kcell ck) : sProp 𝕄)) (fun ck => reached ER (kcell ck) 0)).symm)
    isplitl; · iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => show _ ⊢ linear c from BI.Entails.refl _))
    isplitl [Hat]; · iexact Hat
    iexact Htk

/-- The step all devices take together before the launch. -/
theorem glob : (bigSep Finset.univ fun c => iprop(Pipeline.ownSems0 (Ix := Unit) (Name := ℕ) (U := UU) (Lvl := ℕ) (Val := Elt F) (τ := τ) osem c ∗ unscopedSems0 c ∗ G vl c) : sProp 𝕄)
    ⊢ |={Set.univ}=> bigSep Finset.univ (G' vl) :=
  ((bigSep_mono fun c _ => core_alloc vl c).trans (bigSep_fupd _ _)).trans (BI.fupd_mono (regroup vl))

end

/-! ## The credits -/

theorem csem_ne (n : Fin 48) : (.dma (recvS n) : SemLoc sig) ≠ .reg barS := fun h => nomatch h

theorem kcell_iff {a b : Dev nD} {k k' : CI} : kcell (a, k) = kcell (b, k') ↔ a = b ∧ k = k' :=
  ⟨fun h => Prod.mk.inj (kcell_injective h), fun h => by rw [h.1, h.2]⟩

theorem bar_iff {a b : Dev nD} : barCell a = barCell b ↔ a = b := (kcell_iff (k := none) (k' := none)).trans (and_iff_left rfl)

theorem recv_iff {a b : Dev nD} {n i : Fin 48} : recvCell a n = recvCell b i ↔ a = b ∧ n = i :=
  (kcell_iff (k := some (true, n)) (k' := some (true, i))).trans (and_congr_right fun _ => ⟨fun h => congrArg (fun x : CI => (x.getD (true, 0)).2) h, fun h => by rw [h]⟩)

theorem mate_iff (b : Bool) (c d : Dev nD) : c = mate b d ↔ d = mate b c :=
  ⟨fun h => by rw [h, mate_mate], fun h => by rw [h, mate_mate]⟩

theorem O_bar (d c : Dev nD) : O d 0 (barCell c) () = 0 := by
  by_contra h
  obtain ⟨n, -, hn⟩ := O_pos (Nat.pos_of_ne_zero h)
  exact csem_ne n (congrArg Prod.snd hn).symm

/-- Device `d` owes device `c`'s barrier a unit for each direction in which they are partners. -/
theorem owed_bar (d c : Dev nD) : O₀ d (barCell c) () = (if d = mate true c then 1 else 0) + (if d = mate false c then 1 else 0) := by
  have e (b : Bool) : tallyAt (barCell (mate b d)) () 1 (barCell c) () = if d = mate b c then 1 else 0 := by
    rw [tallyAt_apply]
    exact if_congr (by rw [bar_iff, mate_iff]; exact and_iff_left rfl) rfl rfl
  unfold O₀ O₁
  rw [Pi.add_apply, Finsupp.add_apply, Pi.add_apply, Finsupp.add_apply, O_bar, e, e, Nat.zero_add]

/-- Device `d` owes device `c`'s receive cell of slot `n` a transfer if they are the slot's partners. -/
theorem owed_recv (d c : Dev nD) (n : Fin 48) : O₀ d (recvCell c n) () = if d = peer c n then N else 0 := by
  unfold O₀ O₁
  rw [Pi.add_apply, Finsupp.add_apply, Pi.add_apply, Finsupp.add_apply, tallyAt_ne_cell (fun h => csem_ne n (congrArg Prod.snd h)),
    tallyAt_ne_cell (fun h => csem_ne n (congrArg Prod.snd h)), Finsupp.zero_apply, Nat.add_zero, Nat.add_zero]
  unfold O
  rw [Finset.sum_apply, Finsupp.finset_sum_apply, Finset.sum_eq_single n]
  · rw [if_pos (Nat.zero_le _), tallyAt_apply]
    exact if_congr (by rw [recv_iff, peer, mate_iff, peer]; exact (and_iff_left rfl).trans (and_iff_left rfl)) rfl rfl
  · intro i _ hi
    rw [if_pos (Nat.zero_le _), tallyAt_apply, if_neg]
    rintro ⟨h, -⟩
    exact hi (recv_iff.mp h).2.symm
  · exact fun h => absurd (Finset.mem_univ n) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (mate true c) fun _ => 1, Finset.sum_ite_eq' Finset.univ (mate false c) fun _ => 1, if_pos (Finset.mem_univ _), if_pos (Finset.mem_univ _)]

theorem launch_recv (c : Dev nD) (n : Fin 48) :
    tallyOn (recvCell c n) (launchCredit (Pipeline.owing O₀) 0 (recvCell c n)) = (tallyAt (recvCell c n) () N : CellTallies nD τ sig Unit) := by
  unfold tallyAt; refine congrArg _ (Finsupp.ext fun u => ?_); cases u
  rw [Pipeline.launchCredit_owing, Finsupp.single_eq_same, Finset.sum_congr rfl fun d _ => owed_recv d c n, Finset.sum_ite_eq' Finset.univ (peer c n) fun _ => N,
    if_pos (Finset.mem_univ _)]

/-- The receive semaphores of a device, as distinct locations. -/
def recvE : Fin 48 ↪ SemLoc sig := ⟨fun n => csem (some (true, n)), fun n n' h => by simpa using csem_injective h⟩

/-- Device `c`'s credits at launch: two of its barrier, one transfer of each slot. -/
theorem creds (c : Dev nD) :
    (Pipeline.launchCred O₀ c : sProp 𝕄) ⊢ iprop(cred (tallyAt (barCell c) () 2) ∗ bigSep Finset.univ fun n => cred (tallyAt (recvCell c n) () N)) := by
  unfold Pipeline.launchCred
  rw [bigSep_univ_at _ (SemLoc.reg barS), launch_bar]
  refine sep_mono_right ?_
  refine (BI.bigSep_subset (t := Finset.univ.map recvE) fun x hx => ?_).trans ?_
  · obtain ⟨n, -, rfl⟩ := Finset.mem_map.mp hx
    exact Finset.mem_erase.mpr ⟨csem_ne n, Finset.mem_univ _⟩
  · rw [bigSep_map]
    exact bigSep_mono fun n _ => Entails.of_eq (congrArg cred (launch_recv c n))

end Cert.KernelIdeal.Exch

end
-- ==== Proof.KernelIdeal.Run.lean ====
/-
# The run

Every device's body run from the launch: the arguments stay, every counter ends at zero and the result array of
device `c` ends holding `outAt`.
-/
module

public import proofs.«01_k».proof.Proof.KernelIdeal.Start
public import proofs.«01_k».proof.Proof.Gen.KernelIdeal.Points
public import Idealize.ShloMosaic.Lib.Pipeline.CollectiveSegs

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launched memory, every counter at zero. -/
def s₀ : MemSt nD τ sig (Elt F) := ⟨m, fun _ => 0, ρ⟩

/-- What the devices start from, as the argument arrays hold it. -/
def inp : Inp F where
  x c := m ((c : Thread nD τ).loc main_arg0)
  w l c := match l with
    | 0 => m ((c : Thread nD τ).loc main_arg1)
    | 1 => m ((c : Thread nD τ).loc main_arg3)
    | _ => m ((c : Thread nD τ).loc main_arg5)
  v l c := match l with
    | 0 => m ((c : Thread nD τ).loc main_arg2)
    | 1 => m ((c : Thread nD τ).loc main_arg4)
    | _ => m ((c : Thread nD τ).loc main_arg6)

/-- What device `c`'s body starts from besides its buffers. -/
def start (c : Dev nD) : sProp 𝕄 :=
  iprop(G' (val (inp m)) c ∗ (cred (tallyAt (barCell c) () 2) ∗ bigSep Finset.univ fun n => cred (tallyAt (recvCell c n) () N)) ∗ levAts L lv)

/-- The kernel's own three buffers with any contents. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ bufs c)
def Φ₁ (c : Dev nD) : sProp 𝕄 :=
  iprop(bufs (F := F) c ∗ bigSep Finset.univ (fun n : Fin 48 => iprop(semVal (sendCell c n) 0 ∗ semVal (recvCell c n) 0 : sProp 𝕄)) ∗ semVal (barCell c) 0)

/-- What each window holds after the body. -/
def dats (_ : Fin 1) (c : Dev nD) : Dat τ (Elt F) Unit ℕ UU ℕ cfg0 c where
  A w := m ((cfg0.win w).arr.view.loc (c : Thread nD τ))
  after w _ := match w with
    | ⟨0, _⟩ => (inp m).x c
    | ⟨1, _⟩ => (inp m).w 0 c
    | ⟨2, _⟩ => (inp m).v 0 c
    | ⟨3, _⟩ => (inp m).w 1 c
    | ⟨4, _⟩ => (inp m).v 1 c
    | ⟨5, _⟩ => (inp m).w 2 c
    | ⟨6, _⟩ => (inp m).v 2 c
    | ⟨7, _⟩ => outAt (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A window that is its whole array reads the array. -/
theorem blk_read {s : Shape} {cs : CoreSpace} (arr : Memref sig .tc .hbm s .f32) (isOut sync : Bool)
    (stage : Memref sig .tc (.core cs) ⟨s.rank, s.size⟩ .f32) (sem : DmaSem sig) (harr : arr.IsWhole) (hstage : stage.IsWhole) (t) (f : arr.view.ty.Contents (Elt F)) :
    ((Window.whole arr isOut sync stage sem harr hstage).blk t).view.read (Elt F) f = arr.view.read (Elt F) f := by
  funext y
  rw [View.read_apply, View.read_apply]
  refine congrArg (fun i => cast ?_ (f (arr.view.emb i))) (funext fun a => Fin.ext ?_)
  show 0 * s.size a + 1 * (y a).val = (y a).val
  rw [Nat.zero_mul, Nat.zero_add, Nat.one_mul]

/-! What the input windows hold before the body: their arrays' launched contents. -/

theorem before_0 (c : Dev nD) (t : Fin cfg0.N) (d) : (dats m 0 c).before (0 : Fin 8) t d = (inp m).x c := by
  rw [Dat.before_fetched _ _ _ (fetch0_0 t)]
  exact blk_read (F := F) (Memref.whole main_arg0) false false (stage0_0 0) (sem0_0 0) (Memref.isWhole_whole _) (hstage0_0 0) t (m ((c : Thread nD τ).loc main_arg0))
theorem before_1 (c : Dev nD) (t : Fin cfg0.N) (d) : (dats m 0 c).before (1 : Fin 8) t d = (inp m).w 0 c := by
  rw [Dat.before_fetched _ _ _ (fetch0_1 t)]
  exact blk_read (F := F) (Memref.whole main_arg1) false false (stage0_1 0) (sem0_1 0) (Memref.isWhole_whole _) (hstage0_1 0) t (m ((c : Thread nD τ).loc main_arg1))
theorem before_2 (c : Dev nD) (t : Fin cfg0.N) (d) : (dats m 0 c).before (2 : Fin 8) t d = (inp m).v 0 c := by
  rw [Dat.before_fetched _ _ _ (fetch0_2 t)]
  exact blk_read (F := F) (Memref.whole main_arg2) false false (stage0_2 0) (sem0_2 0) (Memref.isWhole_whole _) (hstage0_2 0) t (m ((c : Thread nD τ).loc main_arg2))
theorem before_3 (c : Dev nD) (t : Fin cfg0.N) (d) : (dats m 0 c).before (3 : Fin 8) t d = (inp m).w 1 c := by
  rw [Dat.before_fetched _ _ _ (fetch0_3 t)]
  exact blk_read (F := F) (Memref.whole main_arg3) false false (stage0_3 0) (sem0_3 0) (Memref.isWhole_whole _) (hstage0_3 0) t (m ((c : Thread nD τ).loc main_arg3))
theorem before_4 (c : Dev nD) (t : Fin cfg0.N) (d) : (dats m 0 c).before (4 : Fin 8) t d = (inp m).v 1 c := by
  rw [Dat.before_fetched _ _ _ (fetch0_4 t)]
  exact blk_read (F := F) (Memref.whole main_arg4) false false (stage0_4 0) (sem0_4 0) (Memref.isWhole_whole _) (hstage0_4 0) t (m ((c : Thread nD τ).loc main_arg4))
theorem before_5 (c : Dev nD) (t : Fin cfg0.N) (d) : (dats m 0 c).before (5 : Fin 8) t d = (inp m).w 2 c := by
  rw [Dat.before_fetched _ _ _ (fetch0_5 t)]
  exact blk_read (F := F) (Memref.whole main_arg5) false false (stage0_5 0) (sem0_5 0) (Memref.isWhole_whole _) (hstage0_5 0) t (m ((c : Thread nD τ).loc main_arg5))
theorem before_6 (c : Dev nD) (t : Fin cfg0.N) (d) : (dats m 0 c).before (6 : Fin 8) t d = (inp m).v 2 c := by
  rw [Dat.before_fetched _ _ _ (fetch0_6 t)]
  exact blk_read (F := F) (Memref.whole main_arg6) false false (stage0_6 0) (sem0_6 0) (Memref.isWhole_whole _) (hstage0_6 0) t (m ((c : Thread nD τ).loc main_arg6))

/-! ## The body's obligation -/

/-- One slot's lot from its tokens, positions and credit. -/
theorem lots (c : Dev nD) :
    iprop((bigSep Finset.univ (fun n => (dutyTok ER (sendCell c n) 0 false : sProp 𝕄)) ∗ bigSep Finset.univ (fun n => dutyTok ER (recvCell (peer c n) n) 0 false))
        ∗ (bigSep Finset.univ (fun n => atPos ER (sendCell c n) 0 ∅ 0) ∗ bigSep Finset.univ (fun n => atPos ER (recvCell c n) 0 ∅ 0))
        ∗ bigSep Finset.univ fun n => cred (tallyAt (recvCell c n) () N))
      ⊢ bigSep Finset.univ fun n => lot (F := F) c n := by
  unfold lot
  rw [bigSep_sep', bigSep_sep', bigSep_sep', bigSep_sep']

/-- The body run between what device `c` holds at its start and at its end. -/
theorem point_at (c : Dev nD) (f : (cc0_stg7_0 : Ref sig .tc).ty.Contents (Elt F)) (W : Waits sig Unit) {Q : PUnit → sProp 𝕄} :
    iprop(Φ₀ m c ∗ owes (c : Thread nD τ) (O₀ c) W ∗ stgs (inp m) c f
        ∗ ((Φ₁ (F := F) c ∗ (∃ W, owes (c : Thread nD τ) 0 W) ∗ stgs (inp m) c (outAt (inp m) c)) -∗ Q ⟨⟩))
      ⊢ Wp c bodyK Q := by
  unfold Φ₀ start bufs G' linear payToks
  rw [by_cell]
  iintro ⟨⟨⟨⟨%K, #HR, ⟨HaB, HaS, HaV⟩, ⟨HtF, HtT⟩, HtS, HtV⟩, ⟨HcB, HcV⟩, HL⟩, ⟨%f0, H0⟩, ⟨%f1, H1⟩, H2⟩, HO, Hstg, Hk⟩
  iapply (body_at (inp m) K c f W)
  isplitl [HL HO]
  · isplitr; · iexact HR
    isplitl [HL]; · iexact HL
    iexact HO
  isplitl [HaB HcB HtF HtT]
  · isplitl [HaB]; · iexact HaB
    isplitl [HcB]; · iexact HcB
    isplitl [HtF] <;> iassumption
  isplitl [HaS HaV HtS HtV HcV H0 H1]
  · isplitl [HaS HaV HtS HtV HcV]
    · iapply (lots (F := F) c)
      isplitl [HtS HtV]
      · isplitl [HtS] <;> iassumption
      isplitl [HaS HaV]
      · isplitl [HaS] <;> iassumption
      iexact HcV
    isplitl [H0]
    · iapply (split_s (F := F) c f0); iexact H0
    iapply (split_r (F := F) c f1); iexact H1
  isplitl [Hstg]; · iexact Hstg
  iintro ⟨⟨Hs, Hr, Hz⟩, HzB, HO, Hstg⟩
  imodintro
  iapply Hk
  unfold Φ₁ bufs
  isplitl [Hs Hr Hz HzB H2]
  · isplitl [Hs Hr H2]
    · isplitl [Hs]; · iapply (join_s (F := F) c); iexact Hs
      isplitl [Hr]; · iapply (join_r (F := F) c); iexact Hr
      iexact H2
    isplitl [Hz] <;> iassumption
  isplitl [HO] <;> iassumption

/-- The windows' buffers as the pipeline hands them over, and as it takes them back. -/
def bodyPre (c : Dev nD) : sProp 𝕄 :=
  iprop(Φ₀ m c ∗ (dats m 0 c).owesAt () t0_0.castSucc
    ∗ (∃ d, owns (c : Thread nD τ) (Memref.whole cc0_stg0_0) fullShare ((dats m 0 c).before (0 : Fin 8) t0_0 d))
    ∗ (∃ d, owns (c : Thread nD τ) (Memref.whole cc0_stg1_0) fullShare ((dats m 0 c).before (1 : Fin 8) t0_0 d))
    ∗ (∃ d, owns (c : Thread nD τ) (Memref.whole cc0_stg2_0) fullShare ((dats m 0 c).before (2 : Fin 8) t0_0 d))
    ∗ (∃ d, owns (c : Thread nD τ) (Memref.whole cc0_stg3_0) fullShare ((dats m 0 c).before (3 : Fin 8) t0_0 d))
    ∗ (∃ d, owns (c : Thread nD τ) (Memref.whole cc0_stg4_0) fullShare ((dats m 0 c).before (4 : Fin 8) t0_0 d))
    ∗ (∃ d, owns (c : Thread nD τ) (Memref.whole cc0_stg5_0) fullShare ((dats m 0 c).before (5 : Fin 8) t0_0 d))
    ∗ (∃ d, owns (c : Thread nD τ) (Memref.whole cc0_stg6_0) fullShare ((dats m 0 c).before (6 : Fin 8) t0_0 d))
    ∗ (∃ d, owns (c : Thread nD τ) (Memref.whole cc0_stg7_0) fullShare ((dats m 0 c).before (7 : Fin 8) t0_0 d)))

def bodyPost (c : Dev nD) : sProp 𝕄 :=
  iprop(Φ₁ c ∗ (dats m 0 c).owesAt () t0_0.succ
    ∗ owns (c : Thread nD τ) (Memref.whole cc0_stg0_0) fullShare ((inp m).x c)
    ∗ owns (c : Thread nD τ) (Memref.whole cc0_stg1_0) fullShare ((inp m).w 0 c)
    ∗ owns (c : Thread nD τ) (Memref.whole cc0_stg2_0) fullShare ((inp m).v 0 c)
    ∗ owns (c : Thread nD τ) (Memref.whole cc0_stg3_0) fullShare ((inp m).w 1 c)
    ∗ owns (c : Thread nD τ) (Memref.whole cc0_stg4_0) fullShare ((inp m).v 1 c)
    ∗ owns (c : Thread nD τ) (Memref.whole cc0_stg5_0) fullShare ((inp m).w 2 c)
    ∗ owns (c : Thread nD τ) (Memref.whole cc0_stg6_0) fullShare ((inp m).v 2 c)
    ∗ owns (c : Thread nD τ) (Memref.whole cc0_stg7_0) fullShare (outAt (inp m) c))

theorem sound_body (c : Dev nD) : bodyPre m c ⊢ Wp c bodyK fun _ => bodyPost m c := by
  unfold bodyPre bodyPost Dat.owesAt Pipeline.owesWithin
  simp only [before_0, before_1, before_2, before_3, before_4, before_5, before_6, owns_whole]
  rw [show (dats m 0 c).owed t0_0.castSucc = O₀ c from rfl, show (dats m 0 c).owed t0_0.succ = 0 from rfl]
  iintro ⟨HΦ, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩⟩
  iapply (point_at m c _ W)
  isplitl [HΦ]; · iexact HΦ
  isplitl [HO]; · iexact HO
  isplitl [H0 H1 H2 H3 H4 H5 H6 H7]
  · unfold stgs
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  unfold stgs
  iintro ⟨HΦ, ⟨%W', HO⟩, Hstg⟩
  isplitl [HΦ]; · iexact HΦ
  isplitl [HO]
  · iexists W'
    isplitr; · ipureintro; exact fun _ _ => Or.inl trivial
    iexact HO
  iexact Hstg

set_option maxRecDepth 100000 in
/-- The library's body obligation on device `c`. -/
theorem body_obligation (c : Dev nD) : BodyObligation (dats (F := F) m 0 c) (defs₀ (F := F)) 𝒱₀ () Set.univ := fun t => by
  rw [show t = t0_0 from fin_N0 t]
  rw [bigSep_W0, bigSep_W0]
  show bodyPre m c ⊢ wp frame (wpE (defs₀ (F := F)) 𝒱₀ c none) Set.univ (bodyAt0 t0_0) (fun _ => bodyPost m c)
  have e : bodyAt0 (F := F) t0_0 = bodyK := by
    show cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 = bodyK
    exact body_eq
  rw [e]
  exact sound_body m c

/-! ## The launch -/

theorem ownSemFacts : Pipeline.OwnSemFacts cfg0.spec osem :=
  ⟨by decide +kernel, fun k k' h => Option.some.inj (csem_injective h), by decide +kernel⟩

theorem share_eq (c : Dev nD) (w : Fin cfg0.W) : (dats m 0 c).share w = fullShare := by unfold Dat.share; split <;> rfl

/-- The launched ghost state: the pipeline's and the exchanges'. -/
def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (val (inp m)) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufs
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ bufs
  rw [bigSep_sep']
  iintro ⟨Hr, ⟨HzS, HzV⟩, HzB⟩
  isplitl [HzB]; · iexact HzB
  isplitl [HzS HzV]
  · isplitl [HzS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What window `w`'s array on device `c` ends holding. -/
def finalA (c : Dev nD) (w : Fin cfg0.W) : Buf (Elt F) ((cfg0.win w).arr.view.loc (c : Thread nD τ)) := (dats m 0 c).arrAt w cfg0.N

set_option maxRecDepth 100000 in
/-- From any memory with every counter at zero, every fair run of the four devices ends, with every window's array as
    computed and every counter at zero. -/
theorem run_main : θ_run defs (onTc (τ := τ) (main (F := F))) (s₀ m ρ) (fun r =>
    (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (val (inp m))) (G' := G' (val (inp m))) (u₀ := u₀)
    (hu₀ := by
      unfold u₀
      iintro Hu
      ihave H := (ownU_pair _ _) $$ Hu
      icases H with ⟨HP, HX⟩
      imod (deal (val (inp m))) $$ HX with HG
      imodintro
      isplitl [HP] <;> iassumption)
    (hglob := glob (val (inp m)))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument array ends holding what it held. -/
theorem finalA_in (c : Dev nD) (w : Fin cfg0.W) (h : (cfg0.win w).isOut = false) : finalA m c w = m ((cfg0.win w).arr.view.loc (c : Thread nD τ)) :=
  (dats m 0 c).arrAt_in w h _

/-- The result array of device `c` ends holding `outAt`. -/
theorem finalA_out (c : Dev nD) : finalA m c (7 : Fin 8) = outAt (inp m) c := by
  refine (dats m 0 c).arrAt_eq_of_cover (7 : Fin 8) (outAt (inp m) c) (fun t _ => ?_) (fun i => ⟨t0_0, flush0_7 t0_0, ?_⟩)
  · exact (blk_read (F := F) (Memref.whole main_v1) true false (stage0_7 0) (sem0_7 0) (Memref.isWhole_whole _) (hstage0_7 0) t (outAt (inp m) c)).symm
  · have h := ((cfg0.win (7 : Fin 8)).blk t0_0).view.emb_mem_set i
    rwa [show ((cfg0.win (7 : Fin 8)).blk t0_0).view.emb i = i from funext fun a => Fin.ext (by
      show 0 * S256x256.size a + 1 * (i a).val = (i a).val
      rw [Nat.zero_mul, Nat.zero_add, Nat.one_mul])] at h

/-- The run, array by array. -/
theorem run_arrays : θ_run defs (onTc (τ := τ) (main (F := F))) (s₀ m ρ) (fun r =>
    (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_v1) = outAt (inp m) c) ∧ r.2.sem = fun _ => 0) := by
  refine (θ_run defs _ _).mono (fun r hr => ⟨fun c => ?_, hr.2⟩) (run_main m ρ)
  exact ⟨(hr.1 c 0).trans (finalA_in m c 0 rfl), (hr.1 c 1).trans (finalA_in m c 1 rfl), (hr.1 c 2).trans (finalA_in m c 2 rfl),
    (hr.1 c 3).trans (finalA_in m c 3 rfl), (hr.1 c 4).trans (finalA_in m c 4 rfl), (hr.1 c 5).trans (finalA_in m c 5 rfl),
    (hr.1 c 6).trans (finalA_in m c 6 rfl), (hr.1 c 7).trans (finalA_out m c)⟩

end Cert.KernelIdeal.Exch

end
-- ==== Proof.Value.Block.lean ====
/-
# What one device's blocks hold, entry by entry

Over the extended reals: an entry of a device's share of a layer is a sum over its 512 hidden units, and after both
exchanges an entry is the sum of the four devices' shares.
-/
module

public import proofs.«01_k».proof.Proof.KernelIdeal.Values
public import Idealize.ShloMosaic.Lib.MatmulPlain
public import Idealize.ShloMosaic.Lib.ValueIdx

@[expose] public section

noncomputable section

namespace Cert.KernelIdeal.Exch

open Cert.KernelIdeal Cert.KernelIdeal.Gen
open Idealize.ShloMosaic Idealize.ShloMosaic.ValueIdx
open scoped BigOperators

theorem inner_plain : dot_S64x256_S256x512_S64x512_1_0_0_1_n_n = DotDims.plain 64 256 512 := rfl
theorem outer_plain : dot_S64x512_S512x256_S64x256_1_0_0_1_n_n = DotDims.plain 64 512 256 := rfl

/-- A hidden unit before its weight out: the row against the unit's column of weights, cut off below at zero. -/
def unit (x w : Fin 256 → EReal) : EReal := max (∑ i, x i * w i) 0

/-- An entry of a device's share of a layer is the sum over its hidden units. -/
theorem mlp_apply (w : WIn Ideal) (v : WOut Ideal) (x : Pair Ideal) (r : Fin 64) (j : Fin 256) :
    mlp w v x (ix2 r j) = ∑ k : Fin 512, unit (fun i => x (ix2 r i)) (fun i => w (ix2 i k)) * v (ix2 k j) := by
  unfold mlp
  rw [inner_plain, outer_plain]
  refine (Ideal.matmul_plain_apply _ _ _ _ r j).trans ?_
  rw [ValueIdx.constant_apply, Ideal.ofBits_zero_f32, zero_add]
  refine Finset.sum_congr rfl fun k _ => congrArg (· * v (ix2 k j)) ?_
  rw [ValueIdx.maximumf_apply, ValueIdx.broadcast_apply]
  refine congrArg₂ max ((Ideal.matmul_plain_apply _ _ _ _ r k).trans ?_) Ideal.ofBits_zero_f32
  rw [ValueIdx.constant_apply, Ideal.ofBits_zero_f32, zero_add]

/-- What is added is the block as it was before it was sent. -/
theorem plus_apply (a b : Blk Ideal) (y : S32x256.Idx) : plus a (to5 b) y = a y + b y := by
  unfold plus of5 to5
  rw [ValueIdx.addf_apply, shapeCast_shapeCast]

/-- A device, its two partners and their common other partner are the four devices. -/
theorem sum_mates (b : Bool) (d : Dev nD) (f : Dev nD → EReal) :
    (f d + f (mate b d)) + (f (mate (!b) d) + f (mate b (mate (!b) d))) = ∑ e : Dev nD, f e := by
  have h : ∀ (b : Bool) (d : Dev nD), [d, mate b d, mate (!b) d, mate b (mate (!b) d)].Nodup ∧
      ([d, mate b d, mate (!b) d, mate b (mate (!b) d)].toFinset : Finset (Dev nD)) = Finset.univ := by decide
  obtain ⟨h1, h2⟩ := h b d
  rw [← h2, List.sum_toFinset _ h1]
  simp only [List.map_cons, List.map_nil, List.sum_cons, List.sum_nil, add_zero, add_assoc]

/-- After both exchanges an entry is the sum over the four devices of their shares. -/
theorem fulls_accs_apply (p : Chunks Ideal) (d : Dev nD) (g : Fin 4) (b : Bool) (y : S32x256.Idx) :
    fulls (accs p) d g b y = ∑ e : Dev nD, p e g b y := by
  unfold fulls accs
  rw [plus_apply, plus_apply, plus_apply]
  exact sum_mates b d fun e => p e g b y

/-- Row `r` of half `b` is row `32 b + r`. -/
theorem half_apply (b : Bool) (p : Pair Ideal) (r : Fin 32) (j : Fin 256) (s : Fin 64) (hs : s.val = 32 * b.toNat + r.val) :
    half b p (ix2 r j) = p (ix2 s j) := by
  cases b
  · show lo p (ix2 r j) = _
    unfold lo
    refine extractStridedSlice_apply _ _ _ _ _ fun a => ?_
    match a with
    | ⟨0, _⟩ => exact hs
    | ⟨1, _⟩ => exact (Nat.zero_add _).symm
  · show hi p (ix2 r j) = _
    unfold hi
    refine extractStridedSlice_apply _ _ _ _ _ fun a => ?_
    match a with
    | ⟨0, _⟩ => exact hs
    | ⟨1, _⟩ => exact (Nat.zero_add _).symm

/-- A row of two stacked halves is a row of one of them. -/
theorem cat_apply (q : Bool → Blk Ideal) (b : Bool) (r : Fin 32) (j : Fin 256) (s : Fin 64) (hs : s.val = 32 * b.toNat + r.val) :
    cat (q false) (q true) (ix2 s j) = q b (ix2 r j) := by
  unfold cat
  cases b
  · refine concatenate_pair_apply_left (t := S64x256) 0 (q false) (q true) _ (ix2 s j) rfl (ix2 r j) fun a => ?_
    match a with
    | ⟨0, _⟩ => exact (hs.trans (Nat.zero_add _)).symm
    | ⟨1, _⟩ => rfl
  · refine concatenate_pair_apply_right (t := S64x256) 0 (q false) (q true) _ (ix2 s j) rfl rfl (ix2 r j) (fun a ha => ?_) ?_
    · match a with
      | ⟨0, _⟩ => exact (ha rfl).elim
      | ⟨1, _⟩ => rfl
    · exact (Nat.add_comm _ _).trans hs.symm

end Cert.KernelIdeal.Exch

end
-- ==== Proof.Value.Whole.lean ====
/-
# A whole layer, entry by entry

Over the extended reals: an entry of a layer of the reference is a sum over its 2048 hidden units, and that sum is
the four devices' sums over their 512 units each.
-/
module

public import proofs.«01_k».proof.Proof.Value.Block
public import proofs.«01_k».proof.Proof.Gen.ReferenceIdeal
public import Idealize.ShloMosaic.Lib.StackMember
public import Idealize.ShloMosaic.Lib.IdealHost
public import Idealize.ShloMosaic.Lib.Layout

@[expose] public section

noncomputable section

namespace Cert.ReferenceIdeal.Layer

open Cert.ReferenceIdeal Cert.ReferenceIdeal.Gen
open Idealize.ShloMosaic Idealize.ShloMosaic.ValueIdx
open Cert.KernelIdeal.Exch (unit)
open scoped BigOperators

/-- One layer of the reference. -/
def layer (w : FVec Ideal S256x2048 .f32) (v : FVec Ideal S2048x256 .f32) (x : FVec Ideal S256x256 .f32) : FVec Ideal S256x256 .f32 :=
  Host.dotGeneral dot_S256x2048_S2048x256_S256x256_1_0_0_1_n_n none
    (maximumf (Host.dotGeneral dot_S256x256_S256x2048_S256x2048_1_0_0_1_n_n none x w)
      (broadcastInDim S256x2048 ![] bcast_S_S256x2048 (constant S_ .f32 0x00000000#32))) v

theorem inner_plain : dot_S256x256_S256x2048_S256x2048_1_0_0_1_n_n = DotDims.plain 256 256 2048 := rfl
theorem outer_plain : dot_S256x2048_S2048x256_S256x256_1_0_0_1_n_n = DotDims.plain 256 2048 256 := rfl

/-- An entry of a layer is the sum over its hidden units. -/
theorem layer_apply (w : FVec Ideal S256x2048 .f32) (v : FVec Ideal S2048x256 .f32) (x : FVec Ideal S256x256 .f32) (r j : Fin 256) :
    layer w v x (ix2 r j) = ∑ k : Fin 2048, unit (fun i => x (ix2 r i)) (fun i => w (ix2 i k)) * v (ix2 k j) := by
  unfold layer
  rw [inner_plain, outer_plain]
  refine (StackMember.dotGeneral_plain_apply _ _ _ r j).trans (Finset.sum_congr rfl fun k _ => congrArg (· * v (ix2 k j)) ?_)
  rw [ValueIdx.maximumf_apply, broadcastInDim_scalar_apply, ValueIdx.constant_apply, Ideal.ofBits_zero_f32]
  exact congrArg (max · 0) (StackMember.dotGeneral_plain_apply _ _ _ r k)

/-- A sum over 2048 is the four sums over 512 in a row. -/
theorem sum_quarters (f : Fin 2048 → EReal) :
    ∑ e : Fin 4, ∑ k : Fin 512, f ⟨e.val * 512 + k.val, by omega⟩ = ∑ k : Fin 2048, f k := by
  rw [← Fintype.sum_prod_type' (f := fun (e : Fin 4) (k : Fin 512) => f ⟨e.val * 512 + k.val, by omega⟩)]
  refine Fintype.sum_equiv (finProdFinEquiv (m := 4) (n := 512)) _ _ fun p => congrArg f (Fin.ext ?_)
  show p.1.val * 512 + p.2.val = p.2.val + 512 * p.1.val
  omega

/-- The four devices' shares of an entry, each from its own columns of the weights in and rows of the weights out,
    add up to the layer's. -/
theorem sum_shares (w : FVec Ideal S256x2048 .f32) (v : FVec Ideal S2048x256 .f32) (x : FVec Ideal S256x256 .f32) (r j : Fin 256) :
    ∑ e : Fin 4, ∑ k : Fin 512, unit (fun i => x (ix2 r i)) (fun i => Layout.block ⟨2, ![256, 512]⟩ S256x2048 1 4 e w (by decide) (ix2 i k))
        * Layout.block ⟨2, ![512, 256]⟩ S2048x256 0 4 e v (by decide) (ix2 k j)
      = layer w v x (ix2 r j) := by
  rw [layer_apply, ← sum_quarters]
  refine Finset.sum_congr rfl fun e _ => Finset.sum_congr rfl fun k _ => congrArg₂ (· * ·) ?_ ?_
  · refine congrArg (unit _) (funext fun i => congrArg w ?_)
    funext a
    match a with
    | ⟨0, _⟩ => rfl
    | ⟨1, _⟩ => rfl
  · refine congrArg v ?_
    funext a
    match a with
    | ⟨0, _⟩ => rfl
    | ⟨1, _⟩ => rfl

end Cert.ReferenceIdeal.Layer

end
-- ==== Proof.Value.Equal.lean ====
/-
# The kernel's result is the reference's

Every device holds, before each layer, the reference's input of that layer, and ends holding its result.
-/
module

public import proofs.«01_k».proof.Proof.Value.Whole

@[expose] public section

noncomputable section

namespace Cert.KernelIdeal.Exch

open Cert.KernelIdeal Cert.KernelIdeal.Gen
open Idealize.ShloMosaic Idealize.ShloMosaic.ValueIdx
open Cert.ReferenceIdeal.Layer (layer sum_shares)
open scoped BigOperators

/-- The whole matrices behind the devices' inputs: the input of the first layer and each layer's two weights. -/
structure Net where
  x : FVec Ideal Cert.ReferenceIdeal.S256x256 .f32
  w : ℕ → FVec Ideal Cert.ReferenceIdeal.S256x2048 .f32
  v : ℕ → FVec Ideal Cert.ReferenceIdeal.S2048x256 .f32

/-- What the reference makes of the input in `l` layers. -/
def Net.upTo (N : Net) : ℕ → FVec Ideal Cert.ReferenceIdeal.S256x256 .f32
  | 0 => N.x
  | l + 1 => layer (N.w l) (N.v l) (N.upTo l)

/-- Each device holds all of the input, its columns of the weights in and its rows of the weights out. -/
structure Shards (N : Net) (I : Inp Ideal) : Prop where
  x : ∀ d, I.x d = N.x
  w : ∀ l d, I.w l d = Layout.block ⟨2, ![256, 512]⟩ ⟨2, ![256, 2048]⟩ 1 4 d (N.w l)
  v : ∀ l d, I.v l d = Layout.block ⟨2, ![512, 256]⟩ ⟨2, ![2048, 256]⟩ 0 4 d (N.v l)

variable {N : Net} {I : Inp Ideal}

/-- If every device holds `x` before layer `l`, the exchanges make an entry of the layer's result on every device. -/
theorem fulls_layer (h : Shards N I) (l : ℕ) (x : FVec Ideal Cert.ReferenceIdeal.S256x256 .f32)
    (hx : ∀ (d : Dev nD) (g : Fin 4) (s : Fin 64) (j R : Fin 256), R.val = 64 * g.val + s.val → X I l d g (ix2 s j) = x (ix2 R j))
    (d : Dev nD) (g : Fin 4) (b : Bool) (r : Fin 32) (j R : Fin 256) (hR : R.val = 64 * g.val + (32 * b.toNat + r.val)) :
    fulls (accs (P I l)) d g b (ix2 r j) = layer (N.w l) (N.v l) x (ix2 R j) := by
  have hs : 32 * b.toNat + r.val < 64 := by have := r.isLt; cases b <;> simp only [Bool.toNat, cond] <;> omega
  rw [fulls_accs_apply, P_eq, ← sum_shares]
  refine Finset.sum_congr rfl fun e _ => ?_
  unfold parts
  rw [half_apply b _ r j ⟨32 * b.toNat + r.val, hs⟩ rfl, mlp_apply, h.w, h.v]
  refine Finset.sum_congr rfl fun k _ => congrArg (fun u => unit u _ * _) (funext fun i => hx e g _ i R hR)

/-- Before each layer every device holds the reference's input of it. -/
theorem X_eq (h : Shards N I) (l : ℕ) (d : Dev nD) (g : Fin 4) (s : Fin 64) (j R : Fin 256) (hR : R.val = 64 * g.val + s.val) :
    X I l d g (ix2 s j) = N.upTo l (ix2 R j) := by
  induction l generalizing d g s j R with
  | zero =>
    show I.x d ((rcX g).emb (ix2 s j)) = N.x (ix2 R j)
    rw [h.x]
    refine congrArg N.x (funext fun a => Fin.ext ?_)
    match a with
    | ⟨0, _⟩ => exact (congrArg (64 * g.val + ·) (Nat.one_mul _)).trans hR.symm
    | ⟨1, _⟩ => exact (Nat.zero_add _).trans (Nat.one_mul _)
  | succ l ih =>
    have hb : ∃ b : Bool, ∃ r : Fin 32, s.val = 32 * b.toNat + r.val := by
      by_cases hs : s.val < 32
      · exact ⟨false, ⟨s.val, hs⟩, (Nat.zero_add _).symm⟩
      · exact ⟨true, ⟨s.val - 32, by omega⟩, by simp only [Bool.toNat, cond]; omega⟩
    obtain ⟨b, r, hs⟩ := hb
    show cat (fulls (accs (P I l)) d g false) (fulls (accs (P I l)) d g true) (ix2 s j) = _
    rw [cat_apply (fun b => fulls (accs (P I l)) d g b) b r j s hs]
    exact fulls_layer h l (N.upTo l) ih d g b r j R (by rw [hR, hs])

/-- Every device ends holding the reference's result. -/
theorem outAt_eq (h : Shards N I) (c : Dev nD) : outAt I c = N.upTo 3 := by
  funext i
  have hi : (i 0).val < 256 := (i 0).isLt
  unfold outAt
  refine (fulls_layer h 2 (N.upTo 2) (X_eq h 2) c _ _ _ _ (i 0) ?_).trans (congrArg (N.upTo 3) (eq_ix2 i).symm)
  by_cases hb : (i 0).val / 32 % 2 = 1
  · rw [hb]; simp only [beq_self_eq_true, Bool.toNat, cond]; omega
  · rw [show ((i 0).val / 32 % 2 == 1) = false from beq_false_of_ne hb]; simp only [Bool.toNat, cond]; omega

end Cert.KernelIdeal.Exch

end
-- ==== Proof.lean ====
/-
# The five claims

The kernel's frames are its run (Proof/Kernel/Run, Proof/KernelIdeal/Run) read at the arguments and the counters, the
reference's frame is its generated run; the value claim sets the run's result equal to the reference's
(Proof/Value/Equal).
-/
module

public import proofs.«01_k».proof.Proof.Gen.ReferenceIdeal.Run
public import proofs.«01_k».proof.Proof.Kernel.Run
public import proofs.«01_k».proof.Proof.KernelIdeal.Run
public import proofs.«01_k».proof.Proof.Value.Equal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The kernel leaves its arguments and every counter as they were, in machine arithmetic; -/
theorem frame_kernel : Cert.quiescent_Kernel (hKernel := Cert.Kernel.Gen.facts) := fun m ρ _ =>
  (θ_run Cert.Kernel.defs _ _).mono
    (fun _ h => ⟨fun c => have ⟨h0, h1, h2, h3, h4, h5, h6, _⟩ := h.1 c; ⟨h0, h1, h2, h3, h4, h5, h6⟩, h.2⟩)
    (Cert.Kernel.Exch.run_arrays m ρ)

/-- in ideal arithmetic; -/
theorem frame_ideal : Cert.quiescent_KernelIdeal (hKernelIdeal := Cert.KernelIdeal.Gen.facts) := fun m ρ _ =>
  (θ_run Cert.KernelIdeal.defs _ _).mono
    (fun _ h => ⟨fun c => have ⟨h0, h1, h2, h3, h4, h5, h6, _⟩ := h.1 c; ⟨h0, h1, h2, h3, h4, h5, h6⟩, h.2⟩)
    (Cert.KernelIdeal.Exch.run_arrays m ρ)

/-- and so does the reference, which declares no counter. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run m ρ)

/-- The result array of every device is the reference's result. -/
theorem value : Cert.algebraic_KernelIdeal_ReferenceIdeal (hKernelIdeal := Cert.KernelIdeal.Gen.facts)
    (hReferenceIdeal := Cert.ReferenceIdeal.Gen.facts) := by
  intro m ρ m' ρ' _ hm
  let N : Cert.KernelIdeal.Exch.Net :=
    { x := m' (((0 : Dev Cert.ReferenceIdeal.nD).tc : Thread Cert.ReferenceIdeal.nD Cert.ReferenceIdeal.τ).loc Cert.ReferenceIdeal.main_arg0)
      w := fun l => match l with
        | 0 => m' (((0 : Dev Cert.ReferenceIdeal.nD).tc : Thread Cert.ReferenceIdeal.nD Cert.ReferenceIdeal.τ).loc Cert.ReferenceIdeal.main_arg1)
        | 1 => m' (((0 : Dev Cert.ReferenceIdeal.nD).tc : Thread Cert.ReferenceIdeal.nD Cert.ReferenceIdeal.τ).loc Cert.ReferenceIdeal.main_arg3)
        | _ => m' (((0 : Dev Cert.ReferenceIdeal.nD).tc : Thread Cert.ReferenceIdeal.nD Cert.ReferenceIdeal.τ).loc Cert.ReferenceIdeal.main_arg5)
      v := fun l => match l with
        | 0 => m' (((0 : Dev Cert.ReferenceIdeal.nD).tc : Thread Cert.ReferenceIdeal.nD Cert.ReferenceIdeal.τ).loc Cert.ReferenceIdeal.main_arg2)
        | 1 => m' (((0 : Dev Cert.ReferenceIdeal.nD).tc : Thread Cert.ReferenceIdeal.nD Cert.ReferenceIdeal.τ).loc Cert.ReferenceIdeal.main_arg4)
        | _ => m' (((0 : Dev Cert.ReferenceIdeal.nD).tc : Thread Cert.ReferenceIdeal.nD Cert.ReferenceIdeal.τ).loc Cert.ReferenceIdeal.main_arg6) }
  have hN : Cert.KernelIdeal.Exch.Shards N (Cert.KernelIdeal.Exch.inp m) :=
    { x := fun d => (hm d).1
      w := fun l d => match l with
        | 0 => (hm d).2.1
        | 1 => (hm d).2.2.2.1
        | _ + 2 => (hm d).2.2.2.2.2.1
      v := fun l d => match l with
        | 0 => (hm d).2.2.1
        | 1 => (hm d).2.2.2.2.1
        | _ + 2 => (hm d).2.2.2.2.2.2 }
  refine ⟨N.upTo 3, ?_, ?_⟩
  · refine (θ_run Cert.KernelIdeal.defs _ _).mono (fun _ h c => ?_) (Cert.KernelIdeal.Exch.run_arrays m ρ)
    have ⟨h0, h1, h2, h3, h4, h5, h6, ho⟩ := h.1 c
    exact ⟨ho.trans (Cert.KernelIdeal.Exch.outAt_eq hN c), h0, h1, h2, h3, h4, h5, h6⟩
  · exact (θ_run Cert.ReferenceIdeal.defs _ _).mono (fun _ h => ⟨(h 0).1, (h 0).2⟩) (Cert.ReferenceIdeal.Value.run m' ρ')

theorem claim : Cert.Claim :=
  ⟨Cert.Kernel.Gen.facts, Cert.KernelIdeal.Gen.facts, Cert.ReferenceIdeal.Gen.facts,
    frame_kernel, frame_ideal, frame_reference, trivial, value⟩

end Cert.Proof

end
